-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x512 : Shape := ⟨2, ![768, 512]⟩
abbrev S2x16384x8x64 : Shape := ⟨4, ![2, 16384, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_

variable [Facts]

def fn {F : FTy → Type} [FloatOps F] (main_arg0 : FVec F S2x512x768 .f32) (main_arg1 : FVec F S768x512 .f32) (main_arg2 : FVec F S2x16384x8x64 .f32) (main_arg3 : FVec F S2x16384x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x16384x8x64 .f32 := Host.absf main_arg2
  let main_cst_2 : FVec F S_ .f32 := constant S_ .f32 0x7F800000#32
  let main_v10 : FVec F S2x16384x8x64 .f32 := broadcastInDim S2x16384x8x64 ![] bcast_S_S2x16384x8x64 main_cst_2
  let main_v11 : IVec S2x16384x8x64 1 := cmpf .olt main_v9 main_v10
  let main_c_3 : IVec S_ 1 := constantI S_ 1 1#1
  let main_v12 : IVec S_ 1 := (fun x v => Host.reduce IntOp.andi x v reducesTo_S2x16384x8x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S1024x768 : Shape := ⟨2, ![1024, 768]⟩
abbrev S1024x512 : Shape := ⟨2, ![1024, 512]⟩
abbrev S32x768 : Shape := ⟨2, ![32, 768]⟩
abbrev S1024x640 : Shape := ⟨2, ![1024, 640]⟩
abbrev S32 : Shape := ⟨1, ![32]⟩
abbrev S_ : Shape := ⟨0, ![]⟩
abbrev S512x512 : Shape := ⟨2, ![512, 512]⟩
abbrev S512x64 : Shape := ⟨2, ![512, 64]⟩
abbrev S512 : Shape := ⟨1, ![512]⟩
abbrev S512x1 : Shape := ⟨2, ![512, 1]⟩
abbrev S512x128 : Shape := ⟨2, ![512, 128]⟩
abbrev S512x8 : Shape := ⟨2, ![512, 8]⟩
abbrev S16x640 : Shape := ⟨2, ![16, 640]⟩
abbrev S1 : Shape := ⟨1, ![1]⟩
abbrev S32x640 : Shape := ⟨2, ![32, 640]⟩
abbrev S16x8 : Shape := ⟨2, ![16, 8]⟩
abbrev S16x64 : Shape := ⟨2, ![16, 64]⟩
abbrev S16x1 : Shape := ⟨2, ![16, 1]⟩
abbrev S16x512 : Shape := ⟨2, ![16, 512]⟩
abbrev S16x768 : Shape := ⟨2, ![16, 768]⟩

abbrev nBuf : Space → Nat
  | .hbm => 11
  | .vmem => 13
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S1024x768, .f32⟩
  | .hbm, ⟨6, _⟩ => ⟨S1024x512, .f32⟩
  | .hbm, ⟨7, _⟩ => ⟨S1024x512, .f32⟩
  | .hbm, ⟨8, _⟩ => ⟨S32x768, .bf16⟩
  | .hbm, ⟨9, _⟩ => ⟨S1024x768, .f32⟩
  | .hbm, ⟨10, _⟩ => ⟨S2x512x768, .f32⟩
  | .local _ .vmem, ⟨0, _⟩ => ⟨S1024x768, .f32⟩
  | .local _ .vmem, ⟨1, _⟩ => ⟨S768x512, .f32⟩
  | .local _ .vmem, ⟨2, _⟩ => ⟨S1024x512, .f32⟩
  | .local _ .vmem, ⟨3, _⟩ => ⟨S1024x512, .f32⟩
  | .local _ .vmem, ⟨4, _⟩ => ⟨S512x768, .f32⟩
  | .local _ .vmem, ⟨5, _⟩ => ⟨S32x768, .bf16⟩
  | .local _ .vmem, ⟨6, _⟩ => ⟨S1024x640, .f32⟩
  | .local _ .vmem, ⟨7, _⟩ => ⟨S1024x640, .bf16⟩
  | .local _ .vmem, ⟨8, _⟩ => ⟨S1024x640, .bf16⟩
  | .local _ .vmem, ⟨9, _⟩ => ⟨S32x768, .bf16⟩
  | .local _ .vmem, ⟨10, _⟩ => ⟨S1024x768, .f32⟩
  | .local _ .vmem, ⟨11, _⟩ => ⟨S1024x768, .bf16⟩
  | .local _ .vmem, ⟨12, _⟩ => ⟨S1024x768, .bf16⟩
  | _, _ => ⟨S2x512x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => false
  | _ => false

abbrev dmaSemScoped : Fin 136 → Bool
  | ⟨i, _⟩ => dmaSemScopedAt i

abbrev sig : RefSig :=
  (ofTc nBuf bufTy 2 136 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg1_0 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 70
abbrev cc1_sem1_0 : DmaSem sig := 71
abbrev barrier0 : Sem sig := 0
abbrev barrier1 : Sem sig := 1

abbrev nD : Nat := 32
abbrev τ : Topo := Topo.v7x

variable {F : FTy → Type} [FloatOps F]

abbrev grid0 : Pipeline.Grid := .none

def k0_off1 (d0 : Dev nD) (c0_i32_239 : BitVec 32) (c1_i32_236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v365 : BitVec 32 := Scalar.addi v2 c1_i32_236
  let c32_i32_237 : BitVec 32 := 32#32
  let v366 : BitVec 32 := Scalar.remsi v365 c32_i32_237
  let c16_i32_238 : BitVec 32 := 16#32
  let v367 : BitVec 32 := Scalar.muli v366 c16_i32_238
  let v368 : BitVec 32 := Scalar.addi c0_i32_239 v367
  let v369 : Index := Scalar.indexCast v368
  let c0_240 : Index := 0#32
  ![v369.toNat, 0]
def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_236 : BitVec 32 := 1#32
  let v365 : BitVec 32 := Scalar.addi v2 c1_i32_236
  let c32_i32_237 : BitVec 32 := 32#32
  let v366 : BitVec 32 := Scalar.remsi v365 c32_i32_237
  v366.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_252 : BitVec 32 := 2#32
  let v389 : BitVec 32 := Scalar.addi v2 c2_i32_252
  let c32_i32_253 : BitVec 32 := 32#32
  let v390 : BitVec 32 := Scalar.remsi v389 c32_i32_253
  v390.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_269 : BitVec 32 := 3#32
  let v413 : BitVec 32 := Scalar.addi v2 c3_i32_269
  let c32_i32_270 : BitVec 32 := 32#32
  let v414 : BitVec 32 := Scalar.remsi v413 c32_i32_270
  v414.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_284 : BitVec 32 := 4#32
  let v437 : BitVec 32 := Scalar.addi v2 c4_i32_284
  let c32_i32_285 : BitVec 32 := 32#32
  let v438 : BitVec 32 := Scalar.remsi v437 c32_i32_285
  v438.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_300 : BitVec 32 := 5#32
  let v461 : BitVec 32 := Scalar.addi v2 c5_i32_300
  let c32_i32_301 : BitVec 32 := 32#32
  let v462 : BitVec 32 := Scalar.remsi v461 c32_i32_301
  v462.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_315 : BitVec 32 := 6#32
  let v485 : BitVec 32 := Scalar.addi v2 c6_i32_315
  let c32_i32_316 : BitVec 32 := 32#32
  let v486 : BitVec 32 := Scalar.remsi v485 c32_i32_316
  v486.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_331 : BitVec 32 := 7#32
  let v509 : BitVec 32 := Scalar.addi v2 c7_i32_331
  let c32_i32_332 : BitVec 32 := 32#32
  let v510 : BitVec 32 := Scalar.remsi v509 c32_i32_332
  v510.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_346 : BitVec 32 := 8#32
  let v533 : BitVec 32 := Scalar.addi v2 c8_i32_346
  let c32_i32_347 : BitVec 32 := 32#32
  let v534 : BitVec 32 := Scalar.remsi v533 c32_i32_347
  v534.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_362 : BitVec 32 := 9#32
  let v557 : BitVec 32 := Scalar.addi v2 c9_i32_362
  let c32_i32_363 : BitVec 32 := 32#32
  let v558 : BitVec 32 := Scalar.remsi v557 c32_i32_363
  v558.toNat
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_377 : BitVec 32 := 10#32
  let v581 : BitVec 32 := Scalar.addi v2 c10_i32_377
  let c32_i32_378 : BitVec 32 := 32#32
  let v582 : BitVec 32 := Scalar.remsi v581 c32_i32_378
  v582.toNat
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_393 : BitVec 32 := 11#32
  let v605 : BitVec 32 := Scalar.addi v2 c11_i32_393
  let c32_i32_394 : BitVec 32 := 32#32
  let v606 : BitVec 32 := Scalar.remsi v605 c32_i32_394
  v606.toNat
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_408 : BitVec 32 := 12#32
  let v629 : BitVec 32 := Scalar.addi v2 c12_i32_408
  let c32_i32_409 : BitVec 32 := 32#32
  let v630 : BitVec 32 := Scalar.remsi v629 c32_i32_409
  v630.toNat
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_424 : BitVec 32 := 13#32
  let v653 : BitVec 32 := Scalar.addi v2 c13_i32_424
  let c32_i32_425 : BitVec 32 := 32#32
  let v654 : BitVec 32 := Scalar.remsi v653 c32_i32_425
  v654.toNat
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_439 : BitVec 32 := 14#32
  let v677 : BitVec 32 := Scalar.addi v2 c14_i32_439
  let c32_i32_440 : BitVec 32 := 32#32
  let v678 : BitVec 32 := Scalar.remsi v677 c32_i32_440
  v678.toNat
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_455 : BitVec 32 := 15#32
  let v701 : BitVec 32 := Scalar.addi v2 c15_i32_455
  let c32_i32_456 : BitVec 32 := 32#32
  let v702 : BitVec 32 := Scalar.remsi v701 c32_i32_456
  v702.toNat
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_470 : BitVec 32 := 16#32
  let v725 : BitVec 32 := Scalar.addi v2 c16_i32_470
  let c32_i32_471 : BitVec 32 := 32#32
  let v726 : BitVec 32 := Scalar.remsi v725 c32_i32_471
  v726.toNat
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_487 : BitVec 32 := 17#32
  let v749 : BitVec 32 := Scalar.addi v2 c17_i32_487
  let c32_i32_488 : BitVec 32 := 32#32
  let v750 : BitVec 32 := Scalar.remsi v749 c32_i32_488
  v750.toNat
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_502 : BitVec 32 := 18#32
  let v773 : BitVec 32 := Scalar.addi v2 c18_i32_502
  let c32_i32_503 : BitVec 32 := 32#32
  let v774 : BitVec 32 := Scalar.remsi v773 c32_i32_503
  v774.toNat
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_517 : BitVec 32 := 19#32
  let v797 : BitVec 32 := Scalar.addi v2 c19_i32_517
  let c32_i32_518 : BitVec 32 := 32#32
  let v798 : BitVec 32 := Scalar.remsi v797 c32_i32_518
  v798.toNat
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_532 : BitVec 32 := 20#32
  let v821 : BitVec 32 := Scalar.addi v2 c20_i32_532
  let c32_i32_533 : BitVec 32 := 32#32
  let v822 : BitVec 32 := Scalar.remsi v821 c32_i32_533
  v822.toNat
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_547 : BitVec 32 := 21#32
  let v845 : BitVec 32 := Scalar.addi v2 c21_i32_547
  let c32_i32_548 : BitVec 32 := 32#32
  let v846 : BitVec 32 := Scalar.remsi v845 c32_i32_548
  v846.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_562 : BitVec 32 := 22#32
  let v869 : BitVec 32 := Scalar.addi v2 c22_i32_562
  let c32_i32_563 : BitVec 32 := 32#32
  let v870 : BitVec 32 := Scalar.remsi v869 c32_i32_563
  v870.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_577 : BitVec 32 := 23#32
  let v893 : BitVec 32 := Scalar.addi v2 c23_i32_577
  let c32_i32_578 : BitVec 32 := 32#32
  let v894 : BitVec 32 := Scalar.remsi v893 c32_i32_578
  v894.toNat
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_592 : BitVec 32 := 24#32
  let v917 : BitVec 32 := Scalar.addi v2 c24_i32_592
  let c32_i32_593 : BitVec 32 := 32#32
  let v918 : BitVec 32 := Scalar.remsi v917 c32_i32_593
  v918.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_607 : BitVec 32 := 25#32
  let v941 : BitVec 32 := Scalar.addi v2 c25_i32_607
  let c32_i32_608 : BitVec 32 := 32#32
  let v942 : BitVec 32 := Scalar.remsi v941 c32_i32_608
  v942.toNat
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_622 : BitVec 32 := 26#32
  let v965 : BitVec 32 := Scalar.addi v2 c26_i32_622
  let c32_i32_623 : BitVec 32 := 32#32
  let v966 : BitVec 32 := Scalar.remsi v965 c32_i32_623
  v966.toNat
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_637 : BitVec 32 := 27#32
  let v989 : BitVec 32 := Scalar.addi v2 c27_i32_637
  let c32_i32_638 : BitVec 32 := 32#32
  let v990 : BitVec 32 := Scalar.remsi v989 c32_i32_638
  v990.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_652 : BitVec 32 := 28#32
  let v1013 : BitVec 32 := Scalar.addi v2 c28_i32_652
  let c32_i32_653 : BitVec 32 := 32#32
  let v1014 : BitVec 32 := Scalar.remsi v1013 c32_i32_653
  v1014.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_667 : BitVec 32 := 29#32
  let v1037 : BitVec 32 := Scalar.addi v2 c29_i32_667
  let c32_i32_668 : BitVec 32 := 32#32
  let v1038 : BitVec 32 := Scalar.remsi v1037 c32_i32_668
  v1038.toNat
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_682 : BitVec 32 := 30#32
  let v1061 : BitVec 32 := Scalar.addi v2 c30_i32_682
  let c32_i32_683 : BitVec 32 := 32#32
  let v1062 : BitVec 32 := Scalar.remsi v1061 c32_i32_683
  v1062.toNat
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_697 : BitVec 32 := 31#32
  let v1085 : BitVec 32 := Scalar.addi v2 c31_i32_697
  let c32_i32_698 : BitVec 32 := 32#32
  let v1086 : BitVec 32 := Scalar.remsi v1085 c32_i32_698
  v1086.toNat
def k0_off2 (d0 : Dev nD) (c0_i32_899 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_898 : BitVec 32 := 16#32
  let v1233 : BitVec 32 := Scalar.muli v2 c16_i32_898
  let v1234 : BitVec 32 := Scalar.addi c0_i32_899 v1233
  let v1235 : Index := Scalar.indexCast v1234
  let c0_900 : Index := 0#32
  ![v1235.toNat, 0]
abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

def k1_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_130 : BitVec 32 := 1#32
  let v164 : BitVec 32 := Scalar.addi v2 c1_i32_130
  let c32_i32_131 : BitVec 32 := 32#32
  let v165 : BitVec 32 := Scalar.remsi v164 c32_i32_131
  v165.toNat
def k1_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_138 : BitVec 32 := 2#32
  let v172 : BitVec 32 := Scalar.addi v2 c2_i32_138
  let c32_i32_139 : BitVec 32 := 32#32
  let v173 : BitVec 32 := Scalar.remsi v172 c32_i32_139
  v173.toNat
def k1_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_145 : BitVec 32 := 3#32
  let v180 : BitVec 32 := Scalar.addi v2 c3_i32_145
  let c32_i32_146 : BitVec 32 := 32#32
  let v181 : BitVec 32 := Scalar.remsi v180 c32_i32_146
  v181.toNat
def k1_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_152 : BitVec 32 := 4#32
  let v188 : BitVec 32 := Scalar.addi v2 c4_i32_152
  let c32_i32_153 : BitVec 32 := 32#32
  let v189 : BitVec 32 := Scalar.remsi v188 c32_i32_153
  v189.toNat
def k1_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_159 : BitVec 32 := 5#32
  let v196 : BitVec 32 := Scalar.addi v2 c5_i32_159
  let c32_i32_160 : BitVec 32 := 32#32
  let v197 : BitVec 32 := Scalar.remsi v196 c32_i32_160
  v197.toNat
def k1_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_166 : BitVec 32 := 6#32
  let v204 : BitVec 32 := Scalar.addi v2 c6_i32_166
  let c32_i32_167 : BitVec 32 := 32#32
  let v205 : BitVec 32 := Scalar.remsi v204 c32_i32_167
  v205.toNat
def k1_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_173 : BitVec 32 := 7#32
  let v212 : BitVec 32 := Scalar.addi v2 c7_i32_173
  let c32_i32_174 : BitVec 32 := 32#32
  let v213 : BitVec 32 := Scalar.remsi v212 c32_i32_174
  v213.toNat
def k1_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_180 : BitVec 32 := 8#32
  let v220 : BitVec 32 := Scalar.addi v2 c8_i32_180
  let c32_i32_181 : BitVec 32 := 32#32
  let v221 : BitVec 32 := Scalar.remsi v220 c32_i32_181
  v221.toNat
def k1_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_187 : BitVec 32 := 9#32
  let v228 : BitVec 32 := Scalar.addi v2 c9_i32_187
  let c32_i32_188 : BitVec 32 := 32#32
  let v229 : BitVec 32 := Scalar.remsi v228 c32_i32_188
  v229.toNat
def k1_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_194 : BitVec 32 := 10#32
  let v236 : BitVec 32 := Scalar.addi v2 c10_i32_194
  let c32_i32_195 : BitVec 32 := 32#32
  let v237 : BitVec 32 := Scalar.remsi v236 c32_i32_195
  v237.toNat
def k1_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_201 : BitVec 32 := 11#32
  let v244 : BitVec 32 := Scalar.addi v2 c11_i32_201
  let c32_i32_202 : BitVec 32 := 32#32
  let v245 : BitVec 32 := Scalar.remsi v244 c32_i32_202
  v245.toNat
def k1_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_208 : BitVec 32 := 12#32
  let v252 : BitVec 32 := Scalar.addi v2 c12_i32_208
  let c32_i32_209 : BitVec 32 := 32#32
  let v253 : BitVec 32 := Scalar.remsi v252 c32_i32_209
  v253.toNat
def k1_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_215 : BitVec 32 := 13#32
  let v260 : BitVec 32 := Scalar.addi v2 c13_i32_215
  let c32_i32_216 : BitVec 32 := 32#32
  let v261 : BitVec 32 := Scalar.remsi v260 c32_i32_216
  v261.toNat
def k1_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_222 : BitVec 32 := 14#32
  let v268 : BitVec 32 := Scalar.addi v2 c14_i32_222
  let c32_i32_223 : BitVec 32 := 32#32
  let v269 : BitVec 32 := Scalar.remsi v268 c32_i32_223
  v269.toNat
def k1_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_229 : BitVec 32 := 15#32
  let v276 : BitVec 32 := Scalar.addi v2 c15_i32_229
  let c32_i32_230 : BitVec 32 := 32#32
  let v277 : BitVec 32 := Scalar.remsi v276 c32_i32_230
  v277.toNat
def k1_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_236 : BitVec 32 := 16#32
  let v284 : BitVec 32 := Scalar.addi v2 c16_i32_236
  let c32_i32_237 : BitVec 32 := 32#32
  let v285 : BitVec 32 := Scalar.remsi v284 c32_i32_237
  v285.toNat
def k1_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_243 : BitVec 32 := 17#32
  let v292 : BitVec 32 := Scalar.addi v2 c17_i32_243
  let c32_i32_244 : BitVec 32 := 32#32
  let v293 : BitVec 32 := Scalar.remsi v292 c32_i32_244
  v293.toNat
def k1_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_250 : BitVec 32 := 18#32
  let v300 : BitVec 32 := Scalar.addi v2 c18_i32_250
  let c32_i32_251 : BitVec 32 := 32#32
  let v301 : BitVec 32 := Scalar.remsi v300 c32_i32_251
  v301.toNat
def k1_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_257 : BitVec 32 := 19#32
  let v308 : BitVec 32 := Scalar.addi v2 c19_i32_257
  let c32_i32_258 : BitVec 32 := 32#32
  let v309 : BitVec 32 := Scalar.remsi v308 c32_i32_258
  v309.toNat
def k1_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_264 : BitVec 32 := 20#32
  let v316 : BitVec 32 := Scalar.addi v2 c20_i32_264
  let c32_i32_265 : BitVec 32 := 32#32
  let v317 : BitVec 32 := Scalar.remsi v316 c32_i32_265
  v317.toNat
def k1_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_271 : BitVec 32 := 21#32
  let v324 : BitVec 32 := Scalar.addi v2 c21_i32_271
  let c32_i32_272 : BitVec 32 := 32#32
  let v325 : BitVec 32 := Scalar.remsi v324 c32_i32_272
  v325.toNat
def k1_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_278 : BitVec 32 := 22#32
  let v332 : BitVec 32 := Scalar.addi v2 c22_i32_278
  let c32_i32_279 : BitVec 32 := 32#32
  let v333 : BitVec 32 := Scalar.remsi v332 c32_i32_279
  v333.toNat
def k1_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_285 : BitVec 32 := 23#32
  let v340 : BitVec 32 := Scalar.addi v2 c23_i32_285
  let c32_i32_286 : BitVec 32 := 32#32
  let v341 : BitVec 32 := Scalar.remsi v340 c32_i32_286
  v341.toNat
def k1_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_292 : BitVec 32 := 24#32
  let v348 : BitVec 32 := Scalar.addi v2 c24_i32_292
  let c32_i32_293 : BitVec 32 := 32#32
  let v349 : BitVec 32 := Scalar.remsi v348 c32_i32_293
  v349.toNat
def k1_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_299 : BitVec 32 := 25#32
  let v356 : BitVec 32 := Scalar.addi v2 c25_i32_299
  let c32_i32_300 : BitVec 32 := 32#32
  let v357 : BitVec 32 := Scalar.remsi v356 c32_i32_300
  v357.toNat
def k1_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_306 : BitVec 32 := 26#32
  let v364 : BitVec 32 := Scalar.addi v2 c26_i32_306
  let c32_i32_307 : BitVec 32 := 32#32
  let v365 : BitVec 32 := Scalar.remsi v364 c32_i32_307
  v365.toNat
def k1_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_313 : BitVec 32 := 27#32
  let v372 : BitVec 32 := Scalar.addi v2 c27_i32_313
  let c32_i32_314 : BitVec 32 := 32#32
  let v373 : BitVec 32 := Scalar.remsi v372 c32_i32_314
  v373.toNat
def k1_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_320 : BitVec 32 := 28#32
  let v380 : BitVec 32 := Scalar.addi v2 c28_i32_320
  let c32_i32_321 : BitVec 32 := 32#32
  let v381 : BitVec 32 := Scalar.remsi v380 c32_i32_321
  v381.toNat
def k1_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_327 : BitVec 32 := 29#32
  let v388 : BitVec 32 := Scalar.addi v2 c29_i32_327
  let c32_i32_328 : BitVec 32 := 32#32
  let v389 : BitVec 32 := Scalar.remsi v388 c32_i32_328
  v389.toNat
def k1_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_334 : BitVec 32 := 30#32
  let v396 : BitVec 32 := Scalar.addi v2 c30_i32_334
  let c32_i32_335 : BitVec 32 := 32#32
  let v397 : BitVec 32 := Scalar.remsi v396 c32_i32_335
  v397.toNat
def k1_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_341 : BitVec 32 := 31#32
  let v404 : BitVec 32 := Scalar.addi v2 c31_i32_341
  let c32_i32_342 : BitVec 32 := 32#32
  let v405 : BitVec 32 := Scalar.remsi v404 c32_i32_342
  v405.toNat
def k1_off1 (d0 : Dev nD) (c0_i32_534 : BitVec 32) (c0_i32_538 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v536 : BitVec 32 := Scalar.subi v2 c0_i32_534
  let c32_i32_535 : BitVec 32 := 32#32
  let v537 : BitVec 32 := Scalar.addi v536 c32_i32_535
  let c32_i32_536 : BitVec 32 := 32#32
  let v538 : BitVec 32 := Scalar.remsi v537 c32_i32_536
  let c32_i32_537 : BitVec 32 := 32#32
  let v539 : BitVec 32 := Scalar.muli v538 c32_i32_537
  let v540 : BitVec 32 := Scalar.addi v539 c0_i32_538
  let v541 : Index := Scalar.indexCast v540
  let c0_539 : Index := 0#32
  ![v541.toNat, 0]
abbrev stage1_0 : Fin 1 → Memref sig .tc .vmem S32x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x16384x8x64 : Shape := ⟨4, ![2, 16384, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S16384 : Shape := ⟨1, ![16384]⟩
abbrev S1x16384 : Shape := ⟨2, ![1, 16384]⟩
abbrev S512x16384 : Shape := ⟨2, ![512, 16384]⟩
abbrev S2x8x512x16384 : Shape := ⟨4, ![2, 8, 512, 16384]⟩
abbrev S1x1x512x16384 : Shape := ⟨4, ![1, 1, 512, 16384]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x16384x8x64, .f32⟩
  | .hbm, ⟨3, _⟩ => ⟨S2x16384x8x64, .f32⟩
  | .hbm, ⟨4, _⟩ => ⟨S512x768, .f32⟩
  | .hbm, ⟨5, _⟩ => ⟨S2x512x512, .f32⟩
  | .hbm, ⟨6, _⟩ => ⟨S2x512x8x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S512x16384, .i32⟩
  | .hbm, ⟨48, _⟩ => ⟨S512x16384, .i32⟩
  | .hbm, ⟨49, _⟩ => ⟨S512x16384, .i1⟩
  | .hbm, ⟨50, _⟩ => ⟨S_, .i32⟩
  | .hbm, ⟨51, _⟩ => ⟨S1x16384, .i32⟩
  | .hbm, ⟨52, _⟩ => ⟨S1x16384, .i1⟩
  | .hbm, ⟨53, _⟩ => ⟨S512x16384, .i1⟩
  | .hbm, ⟨54, _⟩ => ⟨S512x16384, .i1⟩
  | .hbm, ⟨55, _⟩ => ⟨S512x16384, .i32⟩
  | .hbm, ⟨56, _⟩ => ⟨S512x16384, .i32⟩
  | .hbm, ⟨57, _⟩ => ⟨S512x16384, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x16384, .i32⟩
  | .hbm, ⟨65, _⟩ => ⟨S512x16384, .i32⟩
  | .hbm, ⟨66, _⟩ => ⟨S_, .i32⟩
  | .hbm, ⟨67, _⟩ => ⟨S512x16384, .i32⟩
  | .hbm, ⟨68, _⟩ => ⟨S512x16384, .i1⟩
  | .hbm, ⟨69, _⟩ => ⟨S_, .i32⟩
  | .hbm, ⟨70, _⟩ => ⟨S512x16384, .i32⟩
  | .hbm, ⟨71, _⟩ => ⟨S512x16384, .i1⟩
  | .hbm, ⟨72, _⟩ => ⟨S_, .i32⟩
  | .hbm, ⟨73, _⟩ => ⟨S_, .i1⟩
  | .hbm, ⟨74, _⟩ => ⟨S512x16384, .i1⟩
  | .hbm, ⟨75, _⟩ => ⟨S512x16384, .i1⟩
  | .hbm, ⟨76, _⟩ => ⟨S512x16384, .i1⟩
  | .hbm, ⟨77, _⟩ => ⟨S512x16384, .i32⟩
  | .hbm, ⟨78, _⟩ => ⟨S512x16384, .i32⟩
  | .hbm, ⟨79, _⟩ => ⟨S512x16384, .i32⟩
  | .hbm, ⟨80, _⟩ => ⟨S_, .i32⟩
  | .hbm, ⟨81, _⟩ => ⟨S512x16384, .i32⟩
  | .hbm, ⟨82, _⟩ => ⟨S512x16384, .i1⟩
  | .hbm, ⟨83, _⟩ => ⟨S512x16384, .i1⟩
  | .hbm, ⟨84, _⟩ => ⟨S2x8x512x16384, .f32⟩
  | .hbm, ⟨85, _⟩ => ⟨S_, .f32⟩
  | .hbm, ⟨86, _⟩ => ⟨S2x8x512x16384, .f32⟩
  | .hbm, ⟨87, _⟩ => ⟨S2x8x512x16384, .f32⟩
  | .hbm, ⟨88, _⟩ => ⟨S1x1x512x16384, .i1⟩
  | .hbm, ⟨89, _⟩ => ⟨S_, .f32⟩
  | .hbm, ⟨90, _⟩ => ⟨S_, .f32⟩
  | .hbm, ⟨91, _⟩ => ⟨S2x8x512x16384, .i1⟩
  | .hbm, ⟨92, _⟩ => ⟨S2x8x512x16384, .f32⟩
  | .hbm, ⟨93, _⟩ => ⟨S2x8x512x16384, .f32⟩
  | .hbm, ⟨94, _⟩ => ⟨S_, .f32⟩
  | .hbm, ⟨95, _⟩ => ⟨S2x8x512, .f32⟩
  | .hbm, ⟨96, _⟩ => ⟨S2x8x512x1, .f32⟩
  | .hbm, ⟨97, _⟩ => ⟨S2x8x512x16384, .f32⟩
  | .hbm, ⟨98, _⟩ => ⟨S2x8x512x16384, .f32⟩
  | .hbm, ⟨99, _⟩ => ⟨S2x8x512x16384, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x8x512, .f32⟩
  | .hbm, ⟨105, _⟩ => ⟨S2x8x512x1, .f32⟩
  | .hbm, ⟨106, _⟩ => ⟨S_, .f32⟩
  | .hbm, ⟨107, _⟩ => ⟨S_, .f32⟩
  | .hbm, ⟨108, _⟩ => ⟨S2x8x512x1, .i1⟩
  | .hbm, ⟨109, _⟩ => ⟨S2x8x512x1, .f32⟩
  | .hbm, ⟨110, _⟩ => ⟨S2x8x512x1, .f32⟩
  | .hbm, ⟨111, _⟩ => ⟨S2x8x512x16384, .f32⟩
  | .hbm, ⟨112, _⟩ => ⟨S2x8x512x16384, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x8x512x16384, .i1⟩
  | .hbm, ⟨117, _⟩ => ⟨S2x8x512x16384, .f32⟩
  | .hbm, ⟨118, _⟩ => ⟨S2x8x512x16384, .f32⟩
  | .hbm, ⟨119, _⟩ => ⟨S2x8x64x512, .f32⟩
  | .hbm, ⟨120, _⟩ => ⟨S2x512x8x64, .f32⟩
  | .hbm, ⟨121, _⟩ => ⟨S2x512x512, .f32⟩
  | .hbm, ⟨122, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Steps.lean ====
/- A body whose printed form repeats one step at the indices 0 … n−1 is the step run `n` times in order. This module
   names that repetition (`each`), the rule by which a proof walks it, and the closed forms of the integer chains
   the two bodies compute (the peer at an offset). -/
module

public import proofs.«01_k».proof.Proof.Gen.KernelIdeal
public import Idealize.ShloMosaic.Lib.Pipeline.Kit

@[expose] public section

noncomputable section

namespace Cert.KernelIdeal.Own

open Idealize.ShloMosaic Idealize.SL Idealize.SL.Sem
open Cert.KernelIdeal.Gen

/-- The steps `f 0`, …, `f (n − 1)` in order, then `k`. -/
def each {α : Type _} : (n : ℕ) → (Fin n → α → α) → α → α
  | 0, _, k => k
  | n + 1, f, k => f 0 (each n (fun i => f i.succ) k)

/-- The device a body addresses at offset `o`, as the body computes it. -/
def peerN (o : ℕ) (d0 : Dev nD) : ℕ :=
  (Scalar.remsi (Scalar.addi (Scalar.remsi (Scalar.divsi (Dev.word d0) 1#32) 32#32) (BitVec.ofNat 32 o)) 32#32).toNat

/-- It is the device `o` places on, around the ring. -/
theorem peerN_val : ∀ (d0 : Dev nD) (o : Fin 32), peerN o.val d0 = (d0.val + o.val) % 32 := by
  decide +kernel

theorem peerN_lt (o : Fin 32) (d0 : Dev nD) : peerN o.val d0 < nD := by
  rw [peerN_val d0 o]; exact Nat.mod_lt _ (by decide)

/-- The device at offset `o` from `d0`. -/
abbrev peer (o : Fin 32) (d0 : Dev nD) : Dev nD := ⟨peerN o.val d0, peerN_lt o d0⟩

theorem peer_eq (o : Fin 32) (d0 : Dev nD) : peer o d0 = (d0 + o : Fin 32) :=
  Fin.ext (peerN_val d0 o)

theorem inbSem : ∀ o : Fin 32, ∀ a, (![o.val] : Fin 1 → ℕ) a + S1.size a ≤ S32.size a := by
  decide +kernel

/-- The one semaphore at index `o` of an array of 32. -/
abbrev semAt (s : DmaSems sig S32) (o : Fin 32) : DmaSem sig :=
  ((s.slice (Rect.unit (s := S32) ![o.val] S1.size (inbSem o))).squeeze S_ squeezes_S1_S_).sem

/-- What a program of the first core is, of the two calls. -/
abbrev Pr (F : FTy → Type) : Type 1 := Prog (TpuEff nD τ sig (Elt F) Λ₀ (Proc.tc)) PUnit

/-- As `each`, the steps each passing one value on; the values are collected for what follows. -/
def eachGet {α : Type _} {β : Type} : (n : ℕ) → (Fin n → (β → α) → α) → ((Fin n → β) → α) → α
  | 0, _, k => k Fin.elim0
  | n + 1, f, k => f 0 fun b => eachGet n (fun i => f i.succ) fun bs => k (Fin.cons b bs)

end Cert.KernelIdeal.Own

end
-- ==== Proof.Body0.lean ====
/- The body of the first call, written as its repetitions: a barrier signal to every device; per batch the queries, and per head
   the masked exponentials of the scores, their row sums and their products with the values; per offset the rows of one peer
   rounded into a slot and copied to it; the arrivals, their sum, the division, the output product; the waits for the copies
   sent. The values the steps store are named with a head and a batch as variables. -/
module

public import proofs.«01_k».proof.Proof.Steps
public import proofs.«01_k».proof.Proof.Gen.KernelIdeal.Points
public import proofs.«01_k».proof.Proof.Gen.KernelIdeal.Launch
public import proofs.«01_k».proof.Proof.Gen.KernelIdeal.Skeleton

@[expose] public section

set_option maxRecDepth 65536

noncomputable section

namespace Cert.KernelIdeal.Own

open Idealize.ShloMosaic Idealize.ShloMosaic.TcCoe Idealize.SL Idealize.SL.Sem
open Cert.KernelIdeal.Gen

variable {F : FTy → Type} [FloatOps F]

/-! ## The rectangles and their evidence -/

theorem inbX : ∀ b : Fin 2, ∀ a, (![512 * b.val, 0] : Fin 2 → ℕ) a + S512x768.size a ≤ S1024x768.size a := by decide +kernel
theorem inbKV : ∀ (b : Fin 2) (h : Fin 8), ∀ a, (![512 * b.val, 64 * h.val] : Fin 2 → ℕ) a + S512x64.size a ≤ S1024x512.size a := by
  decide +kernel
theorem inbCtx : ∀ (b : Fin 2) (h : Fin 8), ∀ a, (![512 * b.val, 64 * h.val] : Fin 2 → ℕ) a + S512x64.size a ≤ S1024x640.size a := by
  decide +kernel
theorem inbTail : ∀ b : Fin 2, ∀ a, (![512 * b.val, 512] : Fin 2 → ℕ) a + S512x128.size a ≤ S1024x640.size a := by decide +kernel
theorem inbSums : ∀ b : Fin 2, ∀ a, (![512 * b.val, 512] : Fin 2 → ℕ) a + S512x8.size a ≤ S1024x640.size a := by decide +kernel
theorem inbHalf : ∀ (o : Fin 32) (b : Fin 2), ∀ a, (![32 * o.val + 16 * b.val, 0] : Fin 2 → ℕ) a + S16x640.size a ≤ S1024x640.size a := by
  decide +kernel
theorem inbSlot : ∀ o : Fin 32, ∀ a, (![32 * o.val, 0] : Fin 2 → ℕ) a + S32x640.size a ≤ S1024x640.size a := by decide +kernel
theorem inbPart : ∀ b : Fin 2, ∀ a, (![16 * b.val, 0] : Fin 2 → ℕ) a + S16x768.size a ≤ S32x768.size a := by decide +kernel
theorem inbPeer (d0 : Dev nD) (o : Fin 31) (b : Fin 2) :
    ∀ a, (k0_off1 d0 (BitVec.ofNat 32 (512 * b.val)) (BitVec.ofNat 32 o.succ.val)) a + S16x640.size a ≤ S1024x640.size a := by
  have h := k0_off1_inb d0 b o
  rwa [Nat.add_comm 1 o.val] at h

/-- Rows `32 o … 32 o + 31` of a 1024 × 640 buffer. -/
abbrev rows0 (o : Fin 32) : Rect S1024x640 := Rect.unit (s := S1024x640) ![32 * o.val, 0] S32x640.size (inbSlot o)
/-- Rows `32 o + 16 b … 32 o + 16 b + 15`. -/
abbrev half0 (o : Fin 32) (b : Fin 2) : Rect S1024x640 :=
  Rect.unit (s := S1024x640) ![32 * o.val + 16 * b.val, 0] S16x640.size (inbHalf o b)
/-- Rows `16 b … 16 b + 15` of the chunk. -/
abbrev part0 (b : Fin 2) : Rect S32x768 := Rect.unit (s := S32x768) ![16 * b.val, 0] S16x768.size (inbPart b)

theorem words0 : ∀ o : Fin 32, (rows0 o).WholeWords (EltTy.packing .bf16) := by decide +kernel
theorem packedHalf : ∀ (o : Fin 32) (b : Fin 2), (half0 o b).PackedRows (EltTy.packing .bf16) := by decide +kernel
theorem packedPart : ∀ b : Fin 2, (part0 b).PackedRows (EltTy.packing .bf16) := by decide +kernel

theorem slQ : ∀ h : Fin 8, S512x512.Slices ![0, 64 * h.val] S512x64 := by decide +kernel
theorem slRow : ∀ b : Fin 2, S32x640.Slices ![16 * b.val, 0] S16x640 := by decide +kernel
theorem slCtx : ∀ h : Fin 8, S16x640.Slices ![0, 64 * h.val] S16x64 := by decide +kernel
theorem slSum : ∀ h : Fin 8, S16x8.Slices ![0, h.val] S16x1 := by decide +kernel

/-! ## The values -/

/-- The mask of device `d0`: of its 512 key columns, which a query row reads. -/
def maskV (d0 : Dev nD) : IVec S512x512 1 :=
  k0_pay7
    (k0_pay5 (Scalar.remsi (Scalar.divsi (Dev.word d0) 1#32) 32#32) (iota .tc S512x512 32 [0] iota_S512x512_d0_w32)
      (iota .tc S512x512 32 [1] iota_S512x512_d1_w32) 64#32 k0_pay1 k0_pay2)
    (k0_pay6 (Scalar.remsi (Scalar.divsi (Dev.word d0) 1#32) 32#32) (iota .tc S512x512 32 [0] iota_S512x512_d0_w32)
      (iota .tc S512x512 32 [1] iota_S512x512_d1_w32) 64#32 k0_pay1 k0_pay2)

/-- The masked exponentials of head `h`'s scores. -/
def wgtV (d0 : Dev nD) (h : Fin 8) (x : Vec F S512x768 .f32) (wq : Vec F S768x512 .f32) (k : Vec F S512x64 .f32) :
    FVec F S512x512 .f32 :=
  select (maskV d0)
    (exp (mulf
      (matmul dot_S512x64_S512x64_S512x512_1_1_0_0_n_n none
        (extractStridedSlice S512x64 ![0, 64 * h.val] (k0_pay8 x wq) (slQ h))
        (shapeCast S512x64 k shapeCasts_S512x64_S512x64) (constant S512x512 .f32 0x00000000#32))
      (broadcast S512x512 (Scalar.ofBits .f32 0x3E000000#32))))
    (broadcast S512x512 (Scalar.ofBits .f32 0x00000000#32))

/-- Their product with the values. -/
def ctxV (w : FVec F S512x512 .f32) (v : Vec F S512x64 .f32) : FVec F S512x64 .f32 :=
  shapeCast S512x64
    (matmul dot_S512x512_S512x64_S512x64_1_0_0_1_n_n none w (shapeCast S512x64 v shapeCasts_S512x64_S512x64)
      (constant S512x64 .f32 0x00000000#32)) shapeCasts_S512x64_S512x64

/-- Their row sums. -/
def sumV (w : FVec F S512x512 .f32) : FVec F S512x1 .f32 :=
  shapeCast S512x1 (multiReduction .add [1] S512 w 0x00000000#32 reduces_S512x512_S512 (.inl rfl) rfl) shapeCasts_S512_S512x1

/-- The eight heads' row sums side by side. -/
def sumsV (l : Fin 8 → FVec F S512x1 .f32) : FVec F S512x8 .f32 :=
  shapeCast S512x8
    (concatenate S512x8 1 [⟨S512x1, l 0⟩, ⟨S512x1, l 1⟩, ⟨S512x1, l 2⟩, ⟨S512x1, l 3⟩, ⟨S512x1, l 4⟩, ⟨S512x1, l 5⟩, ⟨S512x1, l 6⟩,
      ⟨S512x1, l 7⟩] concatenates_S512x1_S512x1_S512x1_S512x1_S512x1_S512x1_S512x1_S512x1_S512x8_d1) shapeCasts_S512x8_S512x8

/-- `a` and the `n` received blocks, widened, added in order. -/
def accV : (n : ℕ) → FVec F S32x640 .f32 → (Fin n → Vec F S32x640 .bf16) → FVec F S32x640 .f32
  | 0, a, _ => a
  | n + 1, a, r => accV n (addf a (extf .f32 (r 0) bitsLt_bf16_f32)) (fun i => r i.succ)

/-- The own rows and the received blocks summed. -/
def redV (a b : Vec F S16x640 .f32) (r : Fin 31 → Vec F S32x640 .bf16) : FVec F S32x640 .f32 :=
  accV 31 (concatenate S32x640 0 [⟨S16x640, a⟩, ⟨S16x640, b⟩] concatenates_S16x640_S16x640_S32x640_d0) r

/-- Head `h` of batch `b`'s rows, divided by its sums. -/
def quotV (red : FVec F S32x640 .f32) (b : Fin 2) (h : Fin 8) : FVec F S16x64 .f32 :=
  divf
    (extractStridedSlice S16x64 ![0, 64 * h.val] (extractStridedSlice S16x640 ![16 * b.val, 0] red (slRow b)) (slCtx h))
    (broadcastTo S16x64
      (extractStridedSlice S16x1 ![0, h.val]
        (extractStridedSlice S16x8 ![0, 512] (extractStridedSlice S16x640 ![16 * b.val, 0] red (slRow b)) slices_S16x640_o0_512_S16x8)
        (slSum h)) broadcasts_S16x1_S16x64)

/-- Batch `b`'s rows of the chunk: the heads side by side times the output matrix, rounded. -/
def chunkV (red : FVec F S32x640 .f32) (b : Fin 2) (wo : Vec F S512x768 .f32) : FVec F S16x768 .bf16 :=
  truncf .bf16
    (matmul dot_S16x512_S512x768_S16x768_1_0_0_1_n_n none
      (concatenate S16x512 1 [⟨S16x64, quotV red b 0⟩, ⟨S16x64, quotV red b 1⟩, ⟨S16x64, quotV red b 2⟩, ⟨S16x64, quotV red b 3⟩,
        ⟨S16x64, quotV red b 4⟩, ⟨S16x64, quotV red b 5⟩, ⟨S16x64, quotV red b 6⟩, ⟨S16x64, quotV red b 7⟩]
        concatenates_S16x64_S16x64_S16x64_S16x64_S16x64_S16x64_S16x64_S16x64_S16x512_d1)
      (shapeCast S512x768 wo shapeCasts_S512x768_S512x768) (constant S16x768 .f32 0x00000000#32)) bitsLt_bf16_f32

/-! ## The steps -/

/-- The buffers of the first call. -/
abbrev xB : Memref sig .tc .vmem S1024x768 .f32 := Memref.whole cc0_stg0_0
abbrev wqB : Memref sig .tc .vmem S768x512 .f32 := Memref.whole cc0_stg1_0
abbrev kB : Memref sig .tc .vmem S1024x512 .f32 := Memref.whole cc0_stg2_0
abbrev vB : Memref sig .tc .vmem S1024x512 .f32 := Memref.whole cc0_stg3_0
abbrev woB : Memref sig .tc .vmem S512x768 .f32 := Memref.whole cc0_stg4_0
abbrev outB : Memref sig .tc .vmem S32x768 .bf16 := Memref.whole cc0_stg5_0
abbrev comb : Memref sig .tc .vmem S1024x640 .f32 := Memref.whole cc0_scratch0
abbrev sbuf : Memref sig .tc .vmem S1024x640 .bf16 := Memref.whole cc0_scratch1
abbrev rbuf : Memref sig .tc .vmem S1024x640 .bf16 := Memref.whole cc0_scratch2
abbrev sbufRow (o : Fin 32) : Memref sig .tc .vmem S32x640 .bf16 := sbuf.slice (rows0 o) (fun _ => rfl)
abbrev rbufRow (o : Fin 32) : Memref sig .tc .vmem S32x640 .bf16 := rbuf.slice (rows0 o) (fun _ => rfl)

/-- The barrier semaphore of the first call. -/
abbrev bar0 : Sems sig S_ := SemArray.scalar (sig.barrier 0 rfl)

/-- One barrier signal. -/
def signal0 (d : Fin 32) (K : Pr F) : Pr F :=
  .op (.semSignal ((⟨d.val, d.isLt⟩ : Dev nD), .tc) bar0.sem (1#32).toInt) fun _ => K

/-- Head `h` of batch `b`: the products stored, the row sums passed on. -/
def head0 (d0 : Dev nD) (b : Fin 2) (x : Vec F S512x768 .f32) (wq : Vec F S768x512 .f32) (h : Fin 8)
    (K : FVec F S512x1 .f32 → Pr F) : Pr F :=
  .op (.load kB (Rect.unit (s := S1024x512) ![512 * b.val, 64 * h.val] S512x64.size (inbKV b h)).toLoadRect (View.loadsAt_vmem h_S512x64)) fun k =>
  .op (.load vB (Rect.unit (s := S1024x512) ![512 * b.val, 64 * h.val] S512x64.size (inbKV b h)).toLoadRect (View.loadsAt_vmem h_S512x64)) fun v =>
  .op (.load comb (Rect.unit (s := S1024x640) ![512 * b.val, 64 * h.val] S512x64.size (inbCtx b h)).toLoadRect
    (View.loadsAt_vmem h_S512x64)) fun _ =>
  .op (.store comb (Rect.unit (s := S1024x640) ![512 * b.val, 64 * h.val] S512x64.size (inbCtx b h)) (ctxV (wgtV d0 h x wq k) v) Finset.univ
    (View.stores_vmem_bits_univ h_S512x64 rfl) (.inl rfl)) fun _ => K (sumV (wgtV d0 h x wq k))

/-- One batch: its eight heads, then the columns of the row sums. -/
def batch0 (d0 : Dev nD) (b : Fin 2) (K : Pr F) : Pr F :=
  .op (.load xB (Rect.unit (s := S1024x768) ![512 * b.val, 0] S512x768.size (inbX b)).toLoadRect (View.loadsAt_vmem h_S512x768)) fun x =>
  .op (.load wqB (Rect.unit (s := S768x512) ![0, 0] S768x512.size inb_S768x512_S768x512_0_0).toLoadRect (View.loadsAt_vmem h_S768x512)) fun wq =>
  eachGet 8 (head0 d0 b x wq) fun l =>
  .op (.load comb (Rect.unit (s := S1024x640) ![512 * b.val, 512] S512x128.size (inbTail b)).toLoadRect (View.loadsAt_vmem h_S512x128)) fun _ =>
  .op (.store comb (Rect.unit (s := S1024x640) ![512 * b.val, 512] S512x128.size (inbTail b)) (k0_pay38 (F := F)) Finset.univ
    (View.stores_vmem_bits_univ h_S512x128 rfl) (.inl rfl)) fun _ =>
  .op (.load comb (Rect.unit (s := S1024x640) ![512 * b.val, 512] S512x8.size (inbSums b)).toLoadRect (View.loadsAt_vmem h_S512x8)) fun _ =>
  .op (.store comb (Rect.unit (s := S1024x640) ![512 * b.val, 512] S512x8.size (inbSums b)) (sumsV l) Finset.univ
    (View.stores_vmem_bits_univ h_S512x8 rfl) (.inl rfl)) fun _ => K

/-- Batch `b`'s rows of the peer at offset `o + 1`, rounded into the slot. -/
def stage0 (d0 : Dev nD) (o : Fin 31) (b : Fin 2) (K : Pr F) : Pr F :=
  .op (.load comb (Rect.unit (s := S1024x640) (k0_off1 d0 (BitVec.ofNat 32 (512 * b.val)) (BitVec.ofNat 32 o.succ.val)) S16x640.size
    (inbPeer d0 o b)).toLoadRect (View.loadsAt_vmem h_S16x640)) fun v =>
  .op (.load sbuf (half0 o.succ b).toLoadRect (View.loadsAt_vmem h_S16x640)) fun _ =>
  .op (.store sbuf (half0 o.succ b) (k0_pay69 v) Finset.univ
    (View.stores_vmem h_S16x640 ((Memref.isWhole_whole _).storeExact_slice rfl _ (packedHalf o.succ b)) (fun _ => rfl)) (.inl rfl)) fun _ => K

/-- The remote copy of slot `o` to the device `o` places on. -/
def send0 (d0 : Dev nD) (o : Fin 32) (K : Pr F) : Pr F :=
  .op (.enqueueDma (sbufRow o) (.remote (Dev.tc (peer o d0)) (rbufRow o) (.dma (semAt cc0_scratch3 o))) (.dma (semAt cc0_scratch4 o))
    ((Memref.isWhole_whole _).wordExact_slice rfl _ (words0 o)) ((Memref.isWhole_whole _).wordExact_slice rfl _ (words0 o))
    ⟨⟨rfl, Or.inl rfl⟩, trivial⟩) fun _ => K

/-- The wait for the copy arriving in slot `o`. -/
def arrive0 (o : Fin 32) (K : Pr F) : Pr F :=
  .op (.waitDma2 (semAt cc0_scratch4 o) (sbufRow o) (rbufRow o)
    ((Memref.isWhole_whole _).wordExact_slice rfl _ (words0 o)) ((Memref.isWhole_whole _).wordExact_slice rfl _ (words0 o))) fun _ => K

/-- Slot `o` of the landing buffer read. -/
def take0 (o : Fin 32) (K : Vec F S32x640 .bf16 → Pr F) : Pr F :=
  .op (.load rbuf (rows0 o).toLoadRect (View.loadsAt_vmem h_S32x640)) K

/-- Batch `b`'s rows of the own chunk read. -/
def own0 (d0 : Dev nD) (b : Fin 2) (K : Vec F S16x640 .f32 → Pr F) : Pr F :=
  .op (.load comb (Rect.unit (s := S1024x640) (k0_off2 d0 (BitVec.ofNat 32 (512 * b.val))) S16x640.size (k0_off2_inb d0 b)).toLoadRect
    (View.loadsAt_vmem h_S16x640)) K

/-- Batch `b`'s rows of the chunk stored. -/
def emit0 (red : FVec F S32x640 .f32) (b : Fin 2) (K : Pr F) : Pr F :=
  .op (.load woB (Rect.unit (s := S512x768) ![0, 0] S512x768.size inb_S512x768_S512x768_0_0).toLoadRect (View.loadsAt_vmem h_S512x768)) fun wo =>
  .op (.load outB (part0 b).toLoadRect (View.loadsAt_vmem h_S16x768)) fun _ =>
  .op (.store outB (part0 b) (chunkV red b wo) Finset.univ
    (View.stores_vmem h_S16x768 ((Memref.isWhole_whole _).storeExact_slice rfl _ (packedPart b)) (fun _ => rfl)) (.inl rfl)) fun _ => K

/-- The wait for the copy sent from slot `o`. -/
def sent0 (o : Fin 32) (K : Pr F) : Pr F :=
  .op (.waitDma2 (semAt cc0_scratch3 o) (rbufRow o) (sbufRow o)
    ((Memref.isWhole_whole _).wordExact_slice rfl _ (words0 o)) ((Memref.isWhole_whole _).wordExact_slice rfl _ (words0 o))) fun _ => K

/-- The first call's body. -/
def body0 : Pr F :=
  .op .deviceId fun d0 =>
  each 32 signal0 <|
  .op (.semWait bar0.sem (32#32).toInt) fun _ =>
  batch0 d0 0 <| batch0 d0 1 <|
  each 31 (fun o K => stage0 d0 o 0 (stage0 d0 o 1 (send0 d0 o.succ K))) <|
  each 31 (fun o => arrive0 o.succ) <|
  own0 d0 0 fun a => own0 d0 1 fun b =>
  eachGet 31 (fun o => take0 o.succ) fun r =>
  emit0 (redV a b r) 0 <| emit0 (redV a b r) 1 <|
  each 31 (fun o => sent0 o.succ) <|
  .ret ⟨⟩

set_option maxHeartbeats 2000000 in
/-- The printed body is it. -/
theorem body0_eq : bodyAt0 (F := F) t0_0 = body0 := rfl

end Cert.KernelIdeal.Own

end
-- ==== Proof.Body1.lean ====
/- The body of the second call (the gather of the 32 devices' chunks), written as its six repetitions: a barrier signal to every
   device, the chunk copied to 31 slots, 31 remote copies, 31 waits for arrivals, 64 widening copies into the result, 31 waits for
   the copies sent. -/
module

public import proofs.«01_k».proof.Proof.Steps
public import proofs.«01_k».proof.Proof.Gen.KernelIdeal.Points
public import proofs.«01_k».proof.Proof.Gen.KernelIdeal.Launch
public import proofs.«01_k».proof.Proof.Gen.KernelIdeal.Skeleton

@[expose] public section

set_option maxRecDepth 65536

noncomputable section

namespace Cert.KernelIdeal.Own

open Idealize.ShloMosaic Idealize.ShloMosaic.TcCoe Idealize.SL Idealize.SL.Sem
open Cert.KernelIdeal.Gen

variable {F : FTy → Type} [FloatOps F]

/-! ## The rectangles and their evidence -/

theorem inbRow : ∀ o : Fin 32, ∀ a, (![32 * o.val, 0] : Fin 2 → ℕ) a + S32x768.size a ≤ S1024x768.size a := by
  decide +kernel
theorem inbOut : ∀ (b : Fin 2) (c : Fin 32), ∀ a, (![512 * b.val + 16 * c.val, 0] : Fin 2 → ℕ) a + S16x768.size a ≤ S1024x768.size a := by
  decide +kernel
/-- Rows `32 o … 32 o + 31` of a 1024 × 768 buffer. -/
abbrev rows1 (o : Fin 32) : Rect S1024x768 := Rect.unit (s := S1024x768) ![32 * o.val, 0] S32x768.size (inbRow o)

theorem words1 : ∀ o : Fin 32, (rows1 o).WholeWords (EltTy.packing .bf16) := by decide +kernel
theorem packed1 : ∀ o : Fin 32, (rows1 o).PackedRows (EltTy.packing .bf16) := by decide +kernel

/-! ## The steps -/

/-- The buffers of the second call. -/
abbrev och : Memref sig .tc .vmem S32x768 .bf16 := Memref.whole cc1_stg0_0
abbrev res : Memref sig .tc .vmem S1024x768 .f32 := Memref.whole cc1_stg1_0
abbrev sob : Memref sig .tc .vmem S1024x768 .bf16 := Memref.whole cc1_scratch0
abbrev gbuf : Memref sig .tc .vmem S1024x768 .bf16 := Memref.whole cc1_scratch1
abbrev sobRow (o : Fin 32) : Memref sig .tc .vmem S32x768 .bf16 := sob.slice (rows1 o) (fun _ => rfl)
abbrev gbufRow (o : Fin 32) : Memref sig .tc .vmem S32x768 .bf16 := gbuf.slice (rows1 o) (fun _ => rfl)

/-- The barrier semaphore of the second call. -/
abbrev bar1 : Sems sig S_ := SemArray.scalar (sig.barrier 1 rfl)

/-- One barrier signal. -/
def signal1 (d : Fin 32) (K : Pr F) : Pr F :=
  .op (.semSignal ((⟨d.val, d.isLt⟩ : Dev nD), .tc) bar1.sem (1#32).toInt) fun _ => K

/-- The chunk copied to slot `o` of the send buffer. -/
def stage1 (o : Fin 32) (K : Pr F) : Pr F :=
  .op (.load och (Rect.unit (s := S32x768) ![0, 0] S32x768.size inb_S32x768_S32x768_0_0).toLoadRect (View.loadsAt_vmem h_S32x768)) fun v =>
  .op (.load sob (rows1 o).toLoadRect (View.loadsAt_vmem h_S32x768)) fun _ =>
  .op (.store sob (rows1 o) (k1_pay1 v) Finset.univ
    (View.stores_vmem h_S32x768 ((Memref.isWhole_whole _).storeExact_slice rfl _ (packed1 o)) (fun _ => rfl)) (.inl rfl)) fun _ => K

/-- The chunk copied to slot 0 of the landing buffer. -/
def keep1 (K : Pr F) : Pr F :=
  .op (.load och (Rect.unit (s := S32x768) ![0, 0] S32x768.size inb_S32x768_S32x768_0_0).toLoadRect (View.loadsAt_vmem h_S32x768)) fun v =>
  .op (.load gbuf (rows1 0).toLoadRect (View.loadsAt_vmem h_S32x768)) fun _ =>
  .op (.store gbuf (rows1 0) (k1_pay1 v) Finset.univ
    (View.stores_vmem h_S32x768 ((Memref.isWhole_whole _).storeExact_slice rfl _ (packed1 0)) (fun _ => rfl)) (.inl rfl)) fun _ => K

/-- The remote copy of slot `o` to the device `o` places on. -/
def send1 (d0 : Dev nD) (o : Fin 32) (K : Pr F) : Pr F :=
  .op (.enqueueDma (sobRow o) (.remote (Dev.tc (peer o d0)) (gbufRow o) (.dma (semAt cc1_scratch2 o))) (.dma (semAt cc1_scratch3 o))
    ((Memref.isWhole_whole _).wordExact_slice rfl _ (words1 o)) ((Memref.isWhole_whole _).wordExact_slice rfl _ (words1 o))
    ⟨⟨rfl, Or.inl rfl⟩, trivial⟩) fun _ => K

/-- The wait for the copy arriving in slot `o`. -/
def arrive1 (o : Fin 32) (K : Pr F) : Pr F :=
  .op (.waitDma2 (semAt cc1_scratch3 o) (sobRow o) (gbufRow o)
    ((Memref.isWhole_whole _).wordExact_slice rfl _ (words1 o)) ((Memref.isWhole_whole _).wordExact_slice rfl _ (words1 o))) fun _ => K

/-- Half `b` of the chunk of device `c`, widened into the result. -/
def place1 (d0 : Dev nD) (c : Fin 32) (b : Fin 2) (K : Pr F) : Pr F :=
  .op (.load gbuf (Rect.unit (s := S1024x768) (k1_off1 d0 (BitVec.ofNat 32 c.val) (BitVec.ofNat 32 (16 * b.val))) S16x768.size
    (k1_off1_inb d0 c b)).toLoadRect (View.loadsAt_vmem h_S16x768)) fun v =>
  .op (.load res (Rect.unit (s := S1024x768) ![512 * b.val + 16 * c.val, 0] S16x768.size (inbOut b c)).toLoadRect
    (View.loadsAt_vmem h_S16x768)) fun _ =>
  .op (.store res (Rect.unit (s := S1024x768) ![512 * b.val + 16 * c.val, 0] S16x768.size (inbOut b c)) (k1_pay39 v) Finset.univ
    (View.stores_vmem_bits_univ h_S16x768 rfl) (.inl rfl)) fun _ => K

/-- The wait for the copy sent from slot `o`. -/
def sent1 (o : Fin 32) (K : Pr F) : Pr F :=
  .op (.waitDma2 (semAt cc1_scratch2 o) (gbufRow o) (sobRow o)
    ((Memref.isWhole_whole _).wordExact_slice rfl _ (words1 o)) ((Memref.isWhole_whole _).wordExact_slice rfl _ (words1 o))) fun _ => K

/-- The second call's body. -/
def body1 : Pr F :=
  .op .deviceId fun d0 =>
  each 32 signal1 <|
  .op (.semWait bar1.sem (32#32).toInt) fun _ =>
  keep1 <|
  each 31 (fun o => stage1 o.succ) <|
  each 31 (fun o => send1 d0 o.succ) <|
  each 31 (fun o => arrive1 o.succ) <|
  each 32 (fun c K => place1 d0 c 0 (place1 d0 c 1 K)) <|
  each 31 (fun o => sent1 o.succ) <|
  .ret ⟨⟩

set_option maxHeartbeats 2000000 in
/-- The printed body is it. -/
theorem body1_eq : bodyAt1 (F := F) t1_0 = body1 := rfl

end Cert.KernelIdeal.Own

end
-- ==== Proof.EachRule.lean ====
/- How a proof walks a repetition: one step's specification, used at each index. -/
module

public import proofs.«01_k».proof.Proof.Steps
public import Idealize.ShloMosaic.Lib.Pipeline.Kit
public import Idealize.ShloMosaic.Lib.Rounds

@[expose] public section

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M] {α : Type _}

/-- A family over `n + 1` indices is its first member beside the others. -/
theorem family_succ {n : ℕ} (Φ : Fin (n + 1) → sProp M) :
    bigSep Finset.univ Φ = iprop(Φ 0 ∗ bigSep Finset.univ fun i : Fin n => Φ i.succ) := by
  rw [Fin.univ_succ, Finset.cons_eq_insert, BI.bigSep_insert (by simp), BI.bigSep_map]; rfl

theorem family_zero (Φ : Fin 0 → sProp M) : bigSep Finset.univ Φ = (BI.emp : sProp M) := by
  rw [Finset.univ_eq_empty, BI.bigSep_empty]

theorem each_zero (f : Fin 0 → α → α) (k : α) : each 0 f k = k := rfl
theorem each_succ {n : ℕ} (f : Fin (n + 1) → α → α) (k : α) : each (n + 1) f k = f 0 (each n (fun i => f i.succ) k) := rfl
theorem eachGet_zero {β : Type} (f : Fin 0 → (β → α) → α) (k : (Fin 0 → β) → α) : eachGet 0 f k = k Fin.elim0 := rfl
theorem eachGet_succ {β : Type} {n : ℕ} (f : Fin (n + 1) → (β → α) → α) (k : (Fin (n + 1) → β) → α) :
    eachGet (n + 1) f k = f 0 fun b => eachGet n (fun i => f i.succ) fun bs => k (Fin.cons b bs) := rfl

/-- A repetition whose step `i` turns `A i` into `B i` and the running resource at `i` into the one at `i + 1`. -/
theorem each_inv (w : α → sProp M) (P : sProp M) [BI.Persistent P] :
    ∀ (n : ℕ) (f : Fin n → α → α) (A B : Fin n → sProp M) (R : ℕ → sProp M),
      (∀ (i : Fin n) (k : α), iprop(P ∗ A i ∗ R i.val ∗ (iprop(B i ∗ R (i.val + 1)) -∗ w k)) ⊢ w (f i k)) →
      ∀ k, iprop(P ∗ bigSep Finset.univ A ∗ R 0 ∗ (iprop(bigSep Finset.univ B ∗ R n) -∗ w k)) ⊢ w (each n f k)
  | 0, f, A, B, R, h, k => by
    rw [family_zero, family_zero, each_zero]
    iintro ⟨-, -, HR, Hk⟩
    iapply Hk
    isplitr; · iempintro
    iexact HR
  | n + 1, f, A, B, R, h, k => by
    rw [family_succ, family_succ, each_succ]
    iintro ⟨#HP, ⟨HA, HAs⟩, HR, Hk⟩
    iapply (show iprop(P ∗ A 0 ∗ R 0 ∗ (iprop(B 0 ∗ R (0 + 1)) -∗ w _)) ⊢ w _ from h 0 (each n (fun i => f i.succ) k))
    isplitr; · iexact HP
    isplitl [HA]; · iexact HA
    isplitl [HR]; · iexact HR
    iintro ⟨HB, HR⟩
    iapply (each_inv w P n (fun i => f i.succ) (fun i => A i.succ) (fun i => B i.succ) (fun i => R (i + 1)) (fun i k => h i.succ k) k)
    isplitr; · iexact HP
    isplitl [HAs]; · iexact HAs
    isplitl [HR]; · iexact HR
    iintro ⟨HBs, HR⟩
    iapply Hk
    isplitr [HR]
    · isplitl [HB] <;> iassumption
    iexact HR

/-- A repetition whose step `i` pays `t i` off a running tally. -/
theorem each_pay (w : α → sProp M) (P : sProp M) [BI.Persistent P] {T : Type _} [AddCommMonoid T] (R : T → sProp M) (base : T) :
    ∀ (n : ℕ) (f : Fin n → α → α) (A B : Fin n → sProp M) (t : Fin n → T),
      (∀ (i : Fin n) (k : α) (O : T), iprop(P ∗ A i ∗ R (O + t i) ∗ (iprop(B i ∗ R O) -∗ w k)) ⊢ w (f i k)) →
      ∀ k, iprop(P ∗ bigSep Finset.univ A ∗ R (base + ∑ i, t i) ∗ (iprop(bigSep Finset.univ B ∗ R base) -∗ w k)) ⊢ w (each n f k)
  | 0, f, A, B, t, h, k => by
    rw [family_zero, family_zero, Finset.univ_eq_empty, Finset.sum_empty, add_zero, each_zero]
    iintro ⟨-, -, HR, Hk⟩
    iapply Hk
    isplitr; · iempintro
    iexact HR
  | n + 1, f, A, B, t, h, k => by
    rw [family_succ, family_succ, Fin.sum_univ_succ, add_comm (t 0), ← add_assoc, each_succ]
    iintro ⟨#HP, ⟨HA, HAs⟩, HR, Hk⟩
    iapply (h 0 (each n (fun i => f i.succ) k) (base + ∑ i : Fin n, t i.succ))
    isplitr; · iexact HP
    isplitl [HA]; · iexact HA
    isplitl [HR]; · iexact HR
    iintro ⟨HB, HR⟩
    iapply (each_pay w P R base n (fun i => f i.succ) (fun i => A i.succ) (fun i => B i.succ) (fun i => t i.succ) (fun i k O => h i.succ k O) k)
    isplitr; · iexact HP
    isplitl [HAs]; · iexact HAs
    isplitl [HR]; · iexact HR
    iintro ⟨HBs, HR⟩
    iapply Hk
    isplitr [HR]
    · isplitl [HB] <;> iassumption
    iexact HR

/-- A repetition whose step `i` passes on the value `v i`. -/
theorem eachGet_inv (w : α → sProp M) {β : Type} :
    ∀ (n : ℕ) (f : Fin n → (β → α) → α) (R : ℕ → sProp M) (v : Fin n → β),
      (∀ (i : Fin n) (k : β → α), iprop(R i.val ∗ (R (i.val + 1) -∗ w (k (v i)))) ⊢ w (f i k)) →
      ∀ k, iprop(R 0 ∗ (R n -∗ w (k v))) ⊢ w (eachGet n f k)
  | 0, f, R, v, h, k => by
    rw [show v = Fin.elim0 from funext fun i => i.elim0, eachGet_zero]
    iintro ⟨HR, Hk⟩
    iapply Hk; iexact HR
  | n + 1, f, R, v, h, k => by
    rw [eachGet_succ]
    iintro ⟨HR, Hk⟩
    iapply (show iprop(R 0 ∗ (R (0 + 1) -∗ w _)) ⊢ w _ from h 0 fun b => eachGet n (fun i => f i.succ) fun bs => k (Fin.cons b bs))
    isplitl [HR]; · iexact HR
    iintro HR
    iapply (eachGet_inv w n (fun i => f i.succ) (fun i => R (i + 1)) (fun i => v i.succ) (fun i k => h i.succ k) fun bs => k (Fin.cons (v 0) bs))
    isplitl [HR]; · iexact HR
    rw [show (Fin.cons (v 0) fun i => v i.succ : Fin (n + 1) → β) = v from Fin.cons_self_tail v]
    iexact Hk

end Cert.KernelIdeal.Own

end
-- ==== Proof.Protocol.lean ====
/- The protocol of the two calls, one text for both (phase `p` = 0 the reduction, 1 the gather). Every device signals every device's
   barrier once, handing over with the signal the right to write one of its own landing slots; after the barrier each device copies
   one block to every other device, into the slot it was handed. What a slot, a source row and a landed block are is left open
   (`Slots`): the protocol is about who pays whom. -/
module

public import proofs.«01_k».proof.Proof.Body0
public import proofs.«01_k».proof.Proof.Body1
public import proofs.«01_k».proof.Proof.EachRule
public import Idealize.ShloMosaic.Lib.Tactic
public import Idealize.ShloMosaic.Lib.Rounds.Family
public import Idealize.ShloMosaic.Lib.Pipeline.Regions

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

/-! ## The semaphores and what each is for -/

/-- What a semaphore of a phase is for: its barrier, the departures from slot `o`, the arrivals in slot `o`. -/
inductive Role where
  | bar
  | snd (o : Fin 32)
  | rcv (o : Fin 32)
  deriving DecidableEq

def barS : Fin 2 → Sem sig
  | 0 => bar0.sem
  | 1 => bar1.sem
def sndS : Fin 2 → Fin 32 → DmaSem sig
  | 0, o => semAt cc0_scratch3 o
  | 1, o => semAt cc1_scratch2 o
def rcvS : Fin 2 → Fin 32 → DmaSem sig
  | 0, o => semAt cc0_scratch4 o
  | 1, o => semAt cc1_scratch3 o

/-- The semaphore of phase `p` in a role. -/
def semL (p : Fin 2) : Role → SemLoc sig
  | .bar => .reg (barS p)
  | .snd o => .dma (sndS p o)
  | .rcv o => .dma (rcvS p o)

/-- Phase and role of a semaphore; the staging semaphores have none. -/
def role : SemLoc sig → Option (Fin 2 × Role)
  | .reg i => some (if i.val = 0 then 0 else 1, .bar)
  | .dma j =>
    if j.val < 6 then none else if j.val < 38 then some (0, .snd (Fin.ofNat 32 (j.val - 6)))
    else if j.val < 70 then some (0, .rcv (Fin.ofNat 32 (j.val - 38)))
    else if j.val < 72 then none else if j.val < 104 then some (1, .snd (Fin.ofNat 32 (j.val - 72)))
    else some (1, .rcv (Fin.ofNat 32 (j.val - 104)))

theorem role_bar : ∀ p : Fin 2, role (semL p .bar) = some (p, .bar) := by decide +kernel
theorem role_snd : ∀ (p : Fin 2) (o : Fin 32), role (semL p (.snd o)) = some (p, .snd o) := by decide +kernel
theorem role_rcv : ∀ (p : Fin 2) (o : Fin 32), role (semL p (.rcv o)) = some (p, .rcv o) := by decide +kernel
theorem role_semL (p : Fin 2) : ∀ r : Role, role (semL p r) = some (p, r)
  | .bar => role_bar p
  | .snd o => role_snd p o
  | .rcv o => role_rcv p o

theorem semL_inj {p p' : Fin 2} {r r' : Role} (h : semL p r = semL p' r') : p = p' ∧ r = r' := by
  have := congrArg role h
  rw [role_semL, role_semL] at this
  exact ⟨(Prod.mk.inj (Option.some.inj this)).1, (Prod.mk.inj (Option.some.inj this)).2⟩

/-- Device `c`'s semaphore of phase `p` in a role. -/
def cell (p : Fin 2) (c : Dev nD) (r : Role) : GSem nD τ sig := ((c : Thread nD τ), semL p r)

theorem cell_inj {p p' : Fin 2} {c c' : Dev nD} {r r' : Role} (h : cell p c r = cell p' c' r') : p = p' ∧ c = c' ∧ r = r' :=
  have h2 := semL_inj (congrArg Prod.snd h)
  ⟨h2.1, congrArg (fun g : GSem nD τ sig => g.1.1) h, h2.2⟩

/-- The bytes' worth of one block of phase `p`. -/
def N : Fin 2 → Fin 32 → ℕ
  | 0, o => (rbufRow o).view.dmaCredit
  | 1, o => (gbufRow o).view.dmaCredit

theorem N_pos : ∀ (p : Fin 2) (o : Fin 32), 0 < N p o
  | 0, _ => View.dmaCredit_pos _ (by decide)
  | 1, _ => View.dmaCredit_pos _ (by decide)

/-! ## The ghost state's types -/

abbrev UD : Type := URounds (GSem nD τ sig) (Dev nD)
abbrev UU : Type := UR sig nD τ × UD

local notation "𝕄" => MT nD τ sig Unit (Elt F) ℕ UU ℕ

abbrev EP : Emb (UR sig nD τ) (MT nD τ sig Unit (Elt F) ℕ UU ℕ) := embL
abbrev ER : Emb UD (MT nD τ sig Unit (Elt F) ℕ UU ℕ) := embR

/-! ## The schedule -/

variable (F) in
/-- What changes hands: `free p c o` the right to write device `c`'s slot `o` of phase `p`; `land p c o` that slot with the block
    meant for it; `back p c o` device `c`'s source row `o`, returned when its copy has left. -/
structure Slots where
  free : Fin 2 → Dev nD → Fin 32 → sProp (MT nD τ sig Unit (Elt F) ℕ UU ℕ)
  back : Fin 2 → Dev nD → Fin 32 → sProp (MT nD τ sig Unit (Elt F) ℕ UU ℕ)
  land : Fin 2 → Dev nD → Fin 32 → sProp (MT nD τ sig Unit (Elt F) ℕ UU ℕ)
  sfree : ∀ p c o, BI.Storable (upEmb : UEmb _ 𝕄) (free p c o)
  sback : ∀ p c o, BI.Storable (upEmb : UEmb _ 𝕄) (back p c o)
  sland : ∀ p c o, BI.Storable (upEmb : UEmb _ 𝕄) (land p c o)

/-- Who pays a semaphore's one round: the barrier every device, an arrival or departure of slot `o > 0` its one copy. -/
def dutiesOf : Option (Fin 2 × Role) → Finset (Dev nD)
  | some (_, .bar) => Finset.univ
  | some (_, .snd o) => if o = 0 then ∅ else {0}
  | some (_, .rcv o) => if o = 0 then ∅ else {0}
  | none => ∅
def amountOf : Option (Fin 2 × Role) → ℕ
  | some (_, .bar) => 1
  | some (p, .snd o) => N p o
  | some (p, .rcv o) => N p o
  | none => 1
/-- What a payment hands to device `c`. -/
def payOf (S : Slots F) (c d : Dev nD) : Option (Fin 2 × Role) → sProp 𝕄
  | some (p, .bar) => iprop(S.free p d (d - c : Fin 32) ∗ reached ER (cell p d (.rcv (d - c : Fin 32))) 0)
  | some (p, .snd o) => S.back p c o
  | some (p, .rcv o) => S.land p c o
  | none => iprop(emp)

theorem amountOf_pos : ∀ x, 0 < amountOf x
  | some (_, .bar) => Nat.one_pos
  | some (p, .snd o) => N_pos p o
  | some (p, .rcv o) => N_pos p o
  | none => Nat.one_pos

variable (S : Slots F)

/-- The schedule: one round, on the first core's semaphores. -/
def Rd : Rounds.Schedule (GSem nD τ sig) (Dev nD) 𝕄 where
  duties g r := if r = 0 ∧ g.1.2 = .tc then dutiesOf (role g.2) else ∅
  unitless _ := False
  amount g _ _ := amountOf (role g.2)
  payload g _ d := payOf S g.1.1 d (role g.2)
  amount_pos g _ _ _ := amountOf_pos _

instance payOf_storable (c d : Dev nD) : ∀ x, BI.Storable (upEmb : UEmb _ 𝕄) (payOf S c d x)
  | some (p, .bar) => by
    have := S.sfree p d (d - c : Fin 32)
    show BI.Storable upEmb iprop(S.free p d (d - c : Fin 32) ∗ reached ER (cell p d (.rcv (d - c : Fin 32))) 0)
    infer_instance
  | some (p, .snd o) => S.sback p c o
  | some (p, .rcv o) => S.sland p c o
  | none => by show BI.Storable upEmb iprop(emp); infer_instance

instance Rd_payload_storable (g : GSem nD τ sig) (r : ℕ) (d : Dev nD) :
    BI.Storable (upEmb : UEmb _ 𝕄) ((Rd S).payload g r d) := payOf_storable S g.1.1 d (role g.2)

section Sched

variable (p : Fin 2) (c : Dev nD) (r : Role)

theorem duties_zero : (Rd S).duties (cell p c r) 0 = dutiesOf (some (p, r)) := by
  dsimp only [Rd]; rw [if_pos ⟨rfl, rfl⟩]; exact congrArg dutiesOf (role_semL p r)
theorem duties_later (g : GSem nD τ sig) : ∀ n, 1 ≤ n → (Rd S).duties g n = ∅ :=
  fun n hn => by dsimp only [Rd]; rw [if_neg (fun h => by omega)]
theorem amount_eq (n : ℕ) (d : Dev nD) : (Rd S).amount (cell p c r) n d = amountOf (some (p, r)) := by
  dsimp only [Rd]; exact congrArg amountOf (role_semL p r)
theorem payload_eq (n : ℕ) (d : Dev nD) : (Rd S).payload (cell p c r) n d = payOf S c d (some (p, r)) := by
  dsimp only [Rd]; exact congrArg (payOf S c d) (role_semL p r)

theorem expect_bar : (Rd S).expect (cell p c .bar) 0 = 32 := by
  unfold Schedule.expect Schedule.amountOf; rw [duties_zero]
  rw [Finset.sum_congr rfl fun d _ => amount_eq S p c .bar 0 d]
  simp [dutiesOf, amountOf]
theorem expect_snd (o : Fin 32) (h : o ≠ 0) : (Rd S).expect (cell p c (.snd o)) 0 = N p o := by
  unfold Schedule.expect Schedule.amountOf; rw [duties_zero]
  rw [Finset.sum_congr rfl fun d _ => amount_eq S p c (.snd o) 0 d]
  simp [dutiesOf, amountOf, h]
theorem expect_rcv (o : Fin 32) (h : o ≠ 0) : (Rd S).expect (cell p c (.rcv o)) 0 = N p o := by
  unfold Schedule.expect Schedule.amountOf; rw [duties_zero]
  rw [Finset.sum_congr rfl fun d _ => amount_eq S p c (.rcv o) 0 d]
  simp [dutiesOf, amountOf, h]

theorem rest_bar : bigSep ((Rd S).duties (cell p c .bar) 0 \ ∅) (fun d => (Rd S).payload (cell p c .bar) 0 d)
    = bigSep Finset.univ fun d : Dev nD => iprop(S.free p d (d - c : Fin 32) ∗ reached ER (cell p d (.rcv (d - c : Fin 32))) 0) := by
  rw [Finset.sdiff_empty, duties_zero]
  exact bigSep_congr fun d _ => payload_eq S p c .bar 0 d
theorem rest_snd (o : Fin 32) (h : o ≠ 0) :
    bigSep ((Rd S).duties (cell p c (.snd o)) 0 \ ∅) (fun d => (Rd S).payload (cell p c (.snd o)) 0 d) = S.back p c o := by
  rw [Finset.sdiff_empty, duties_zero, show dutiesOf (some (p, Role.snd o)) = {0} from if_neg h, bigSep_singleton, payload_eq]; rfl
theorem rest_rcv (o : Fin 32) (h : o ≠ 0) :
    bigSep ((Rd S).duties (cell p c (.rcv o)) 0 \ ∅) (fun d => (Rd S).payload (cell p c (.rcv o)) 0 d) = S.land p c o := by
  rw [Finset.sdiff_empty, duties_zero, show dutiesOf (some (p, Role.rcv o)) = {0} from if_neg h, bigSep_singleton, payload_eq]; rfl

end Sched

/-! ## What a device owes; the levels -/

abbrev CT := CellTallies nD τ sig Unit

/-- The copies device `c` owes in phase `p`. -/
def sends (p : Fin 2) (c : Dev nD) : CT :=
  ∑ o : Fin 31, tallyAt (cell p (c + o.succ : Fin 32) (.rcv o.succ)) () (N p o.succ)
/-- The barrier signals. -/
def signals (p : Fin 2) : CT := ∑ d : Dev nD, tallyAt (cell p d .bar) () 1
def dues (p : Fin 2) (c : Dev nD) : CT := sends p c + signals p
/-- What is still owed when phase `p` is done. -/
def later : Fin 2 → Dev nD → CT
  | 0, c => dues 1 c
  | 1, _ => 0

def L (g : GSem nD τ sig) : Finset Unit := if g.1.2 = .tc then {()} else ∅
def lvOf : Option (Fin 2 × Role) → ℕ
  | some (p, .bar) => 2 * p.val + 1
  | some (p, .rcv _) => 2 * p.val + 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (p : Fin 2) (c : Dev nD) (r : Role) : lv (cell p c r) () = lvOf (some (p, r)) :=
  congrArg lvOf (role_semL p r)

theorem add_apply_pos {T T' : CT} {g : GSem nD τ sig} {u : Unit} (h : 0 < (T + T') g u) : 0 < T g u ∨ 0 < T' g u := by
  rw [Pi.add_apply, Finsupp.add_apply] at h; omega
theorem sum_apply {ι : Type} (s : Finset ι) (f : ι → CT) (g : GSem nD τ sig) (u : Unit) : (∑ i ∈ s, f i) g u = ∑ i ∈ s, f i g u := by
  rw [Finset.sum_apply, Finsupp.finset_sum_apply]
theorem sum_apply_pos {ι : Type} {s : Finset ι} {f : ι → CT} {g : GSem nD τ sig} {u : Unit} (h : 0 < (∑ i ∈ s, f i) g u) :
    ∃ i ∈ s, 0 < f i g u := by
  rw [sum_apply] at h
  by_contra hc
  push Not at hc
  exact absurd (Finset.sum_eq_zero fun i hi => Nat.le_zero.mp (hc i hi)) (Nat.pos_iff_ne_zero.mp h)
theorem tally_pos {g : GSem nD τ sig} {k : ℕ} {g' : GSem nD τ sig} {u : Unit} (h : 0 < (tallyAt g () k : CT) g' u) : g' = g := by
  rw [tallyAt_apply] at h
  by_contra hc
  rw [if_neg fun h' => hc h'.1] at h
  exact absurd h (lt_irrefl 0)

theorem sends_pos {p : Fin 2} {c : Dev nD} {g : GSem nD τ sig} {u : Unit} (h : 0 < sends p c g u) : ∃ d o, g = cell p d (.rcv o) := by
  obtain ⟨o, -, ho⟩ := sum_apply_pos h
  exact ⟨_, _, tally_pos ho⟩
theorem signals_pos {p : Fin 2} {g : GSem nD τ sig} {u : Unit} (h : 0 < signals p g u) : ∃ d, g = cell p d .bar := by
  obtain ⟨d, -, hd⟩ := sum_apply_pos h
  exact ⟨_, tally_pos hd⟩

/-- Everything owed in phase `p` is owed to a first core, above level `2 p`. -/
theorem dues_pos {p : Fin 2} {c : Dev nD} {g : GSem nD τ sig} {u : Unit} (h : 0 < dues p c g u) : u ∈ L g ∧ 2 * p.val < lv g u := by
  rcases add_apply_pos h with h | h
  · obtain ⟨d, o, rfl⟩ := sends_pos h
    exact ⟨by rw [cell, L_tc]; exact Finset.mem_singleton_self _, by rw [lv_cell]; show _ < 2 * p.val + 2; omega⟩
  · obtain ⟨d, rfl⟩ := signals_pos h
    exact ⟨by rw [cell, L_tc]; exact Finset.mem_singleton_self _, by rw [lv_cell]; show _ < 2 * p.val + 1; omega⟩
theorem later_pos {p : Fin 2} {c : Dev nD} {g : GSem nD τ sig} {u : Unit} (h : 0 < later p c g u) :
    u ∈ L g ∧ 2 * p.val + 2 < lv g u := by
  obtain rfl | rfl : p = 0 ∨ p = 1 := by omega
  · rw [show later 0 c = dues 1 c from rfl] at h
    have := dues_pos h
    exact ⟨this.1, lt_of_le_of_lt (by decide) this.2⟩
  · rw [show later 1 c = 0 from rfl, Pi.zero_apply, Finsupp.zero_apply] at h
    exact absurd h (lt_irrefl 0)
theorem sends_later_pos {p : Fin 2} {c : Dev nD} {g : GSem nD τ sig} {u : Unit} (h : 0 < (later p c + sends p c) g u) :
    u ∈ L g ∧ 2 * p.val + 1 < lv g u := by
  rcases add_apply_pos h with h | h
  · exact ⟨(later_pos h).1, by have := (later_pos h).2; omega⟩
  · obtain ⟨d, o, rfl⟩ := sends_pos h
    exact ⟨by rw [cell, L_tc]; exact Finset.mem_singleton_self _, by rw [lv_cell]; show _ < 2 * p.val + 2; omega⟩

/-- A device may wait at a semaphore of level at most `b` while all it owes lies above `b`. -/
theorem may_wait (c : Dev nD) (sm : SemLoc sig) (b : ℕ) (O : CT) (hb : lv ((c : Thread nD τ), sm) () ≤ b)
    (hO : ∀ g u, 0 < O g u → u ∈ L g ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hb) (fun g u hg => (hO g u hg).2)

/-! ## The cells -/

def barEmb : Fin 2 × Dev nD ↪ GSem nD τ sig :=
  ⟨fun x => cell x.1 x.2 .bar, fun _ _ h => Prod.ext (cell_inj h).1 (cell_inj h).2.1⟩
/-- Departure (`false`) or arrival (`true`). -/
def rl : Bool → Fin 32 → Role
  | false, o => .snd o
  | true, o => .rcv o
theorem rl_inj {b b' : Bool} {o o' : Fin 32} (h : rl b o = rl b' o') : b = b' ∧ o = o' := by
  cases b <;> cases b' <;> simp_all [rl]
theorem rl_ne_bar (b : Bool) (o : Fin 32) : rl b o ≠ .bar := by cases b <;> simp [rl]
/-- Phase `p`'s own semaphores, as one family. -/
abbrev osem (p : Fin 2) (k : Bool × Fin 32) : SemLoc sig := semL p (rl k.1 k.2)
def scEmb : (Fin 2 × Dev nD) × (Bool × Fin 32) ↪ GSem nD τ sig :=
  ⟨fun x => cell x.1.1 x.1.2 (rl x.2.1 x.2.2), fun _ _ h =>
    Prod.ext (Prod.ext (cell_inj h).1 (cell_inj h).2.1) (Prod.ext (rl_inj (cell_inj h).2.2).1 (rl_inj (cell_inj h).2.2).2)⟩
def barCells : Finset (GSem nD τ sig) := Finset.univ.map barEmb
def scCells : Finset (GSem nD τ sig) := Finset.univ.map scEmb

theorem disjoint_cells : Disjoint barCells scCells := by
  unfold barCells scCells
  rw [Finset.disjoint_left]
  intro g h1 h2
  obtain ⟨x, -, rfl⟩ := Finset.mem_map.mp h1
  obtain ⟨y, -, hy⟩ := Finset.mem_map.mp h2
  exact rl_ne_bar _ _ (cell_inj (show cell y.1.1 y.1.2 (rl y.2.1 y.2.2) = cell x.1 x.2 .bar from hy)).2.2

theorem cell_mem (p : Fin 2) (c : Dev nD) : ∀ r : Role, cell p c r ∈ barCells ∪ scCells
  | .bar => Finset.mem_union_left _ (Finset.mem_map_of_mem barEmb (Finset.mem_univ (p, c)))
  | .snd o => Finset.mem_union_right _ (Finset.mem_map_of_mem scEmb (Finset.mem_univ ((p, c), (false, o))))
  | .rcv o => Finset.mem_union_right _ (Finset.mem_map_of_mem scEmb (Finset.mem_univ ((p, c), (true, o))))

/-- What every device may consult: all the cells' invariants under one map of names; round 0 of every barrier reached. -/
def records (κ : GSem nD τ sig → ℕ) : sProp 𝕄 :=
  iprop((bigSep (barCells ∪ scCells) fun g => cellInv ER (Rd S) (κ g) g) ∗ bigSep barCells fun g => reached ER g 0)

instance records_persistent (κ : GSem nD τ sig → ℕ) : BI.Persistent (records S κ) := by unfold records; infer_instance

theorem inv_at (κ : GSem nD τ sig → ℕ) (p : Fin 2) (c : Dev nD) (r : Role) :
    records S κ ⊢ cellInv ER (Rd S) (κ (cell p c r)) (cell p c r) := by
  unfold records
  iintro ⟨#HI, -⟩
  iapply (show (bigSep (barCells ∪ scCells) fun g => (cellInv ER (Rd S) (κ g) g : sProp 𝕄)) ⊢ cellInv ER (Rd S) (κ (cell p c r)) (cell p c r) from
    bigSep_elim (cell_mem p c r)); iexact HI

theorem reached_at (κ : GSem nD τ sig → ℕ) (p : Fin 2) (c : Dev nD) : records S κ ⊢ reached ER (cell p c .bar) 0 := by
  unfold records
  iintro ⟨-, #HR⟩
  iapply (show (bigSep barCells fun g => (reached ER g 0 : sProp 𝕄)) ⊢ reached ER (cell p c .bar) 0 from
    bigSep_elim (Finset.mem_map_of_mem barEmb (Finset.mem_univ (p, c)))); iexact HR

end Cert.KernelIdeal.Own

end
-- ==== Proof.Talk.lean ====
/- The talking steps of a phase, run: the barrier signals, the barrier wait, the copies, the two kinds of waits. One text for both phases. -/
module

public import proofs.«01_k».proof.Proof.Protocol

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- The weakest precondition of a program of device `c`'s first core. -/
abbrev wpT (c : Dev nD) (Q : PUnit → sProp 𝕄) (k : Pr F) : sProp 𝕄 :=
  wp frame (wpE (defs₀ (F := F)) 𝒱₀ (c : Thread nD τ) none) Set.univ k Q

variable (S : Slots F) (κ : GSem nD τ sig → ℕ) (p : Fin 2) (c : Dev nD) (Q : PUnit → sProp (MT nD τ sig Unit (Elt F) ℕ UU ℕ))

/-- One barrier signal of phase `p`. -/
abbrev signalP (p : Fin 2) (d : Fin 32) (K : Pr F) : Pr F :=
  .op (.semSignal ((⟨d.val, d.isLt⟩ : Dev nD), .tc) (barS p) (1#32).toInt) fun _ => K

/-- What device `c` pays device `d`'s barrier with: the token, its slot, and that its arrivals there are at round 0. -/
def signalArg (d : Fin 32) : sProp 𝕄 :=
  iprop(dutyTok ER (cell p d .bar) 0 c ∗ S.free p c (c - d : Fin 32) ∗ reached ER (cell p c (.rcv (c - d : Fin 32))) 0)

theorem signals_run (O : CT) (W : Waits sig Unit) (k : Pr F) :
    iprop(records S κ ∗ (bigSep Finset.univ fun d => signalArg S p c d) ∗ owes (c : Thread nD τ) (O + signals p) W
        ∗ iprop(owes (c : Thread nD τ) O W -∗ wpT c Q k))
      ⊢ wpT c Q (each 32 (signalP p) k) := by
  have h := each_pay (wpT c Q) (records S κ) (fun O => owes (c : Thread nD τ) O W) O 32 (signalP p) (signalArg S p c) (fun _ => iprop(emp))
    (fun d => (tallyAt (cell p d .bar) () 1 : CT)) (fun d k O => by
      unfold signalArg
      iintro ⟨#HR, ⟨Htok, Hfree, Hrch⟩, HO, Hk⟩
      iapply (Rounds.wp_signal 𝒱₀ ER (Rd S) (c : Thread nD τ) none (dst := (d : Thread nD τ)) (sem := barS p) (r := 0) (d := c)
        (κ := κ (cell p d .bar)) (show c ∈ (Rd S).duties (cell p d .bar) 0 by rw [duties_zero]; exact Finset.mem_univ _)
        (show (Rd S).amount (cell p d .bar) 0 c = 1 from amount_eq S p d .bar 0 c) () O rfl) $$ [HO Htok Hfree Hrch]
      · isplitr; · iapply (inv_at S κ p d .bar); iexact HR
        isplitl [HO]; · iexact HO
        isplitl [Htok]; · iexact Htok
        isplitl [Hfree Hrch]
        · iapply (show payOf S d c (some (p, .bar)) ⊢ (Rd S).payload ((d : Thread nD τ), .reg (barS p)) 0 c from
            Entails.of_eq (payload_eq S p d .bar 0 c).symm)
          unfold payOf
          isplitl [Hfree]; · iexact Hfree
          iexact Hrch
        · iapply (reached_at S κ p d); iexact HR
      iintro HO
      iapply Hk
      isplitr; · iempintro
      iexact HO) k
  iintro ⟨#HR, Hs, HO, Hk⟩
  iapply h
  isplitr; · iexact HR
  isplitl [Hs]; · iexact Hs
  isplitl [HO]; · iexact HO
  iintro ⟨-, HO⟩
  iapply Hk; iexact HO

/-- The barrier wait: every device's slot for device `c`'s copy comes with it. -/
theorem barrier_run (W : Waits sig Unit) (k : Pr F) :
    iprop(records S κ ∗ levAts L lv ∗ cred (tallyAt (cell p c .bar) () 32) ∗ owes (c : Thread nD τ) (later p c + sends p c) W
        ∗ atPos ER (cell p c .bar) 0 ∅ 0
        ∗ (iprop((∃ W, owes (c : Thread nD τ) (later p c + sends p c) W) ∗ atPos ER (cell p c .bar) 1 ∅ 0
            ∗ bigSep Finset.univ fun d : Dev nD => iprop(S.free p d (d - c : Fin 32) ∗ reached ER (cell p d (.rcv (d - c : Fin 32))) 0)) -∗ wpT c Q k))
      ⊢ wpT c Q (.op (.semWait (barS p) (32#32).toInt) fun _ => k) := by
  iintro ⟨#HR, #Hlev, Hc, HO, Hat, Hk⟩
  iapply (Rounds.wp_wait_rest_token 𝒱₀ ER (Rd S) (c : Thread nD τ) none (κ := κ (cell p c .bar))
      (wpE_semWait_eq 𝒱₀ (c : Thread nD τ) none Set.univ) (Set.mem_univ _) () (O := later p c + sends p c) (W := W) (R := 0) (m := 0) (T := ∅)
      ((Nat.zero_add 32).trans (expect_bar S p c).symm)) $$ [Hc HO Hat]
  · isplitr; · iapply (inv_at S κ p c .bar); iexact HR
    isplitl [Hc]; · iexact Hc
    isplitl [HO]; · iexact HO
    isplitr
    · iapply (may_wait (F := F) c (semL p .bar) (2 * p.val + 1) (later p c + sends p c) (le_of_eq (lv_cell p c .bar)) (fun g u h => sends_later_pos h)); iexact Hlev
    iexact Hat
  iintro ⟨HO, Hat, -, Hpay⟩
  iapply Hk
  isplitl [HO]; · iexists _; iexact HO
  isplitl [Hat]; · iexact Hat
  iapply (show bigSep ((Rd S).duties ((c : Thread nD τ), .reg (barS p)) 0 \ ∅) (fun d => (Rd S).payload ((c : Thread nD τ), .reg (barS p)) 0 d) ⊢ _ from
    Entails.of_eq (rest_bar S p c)) $$ Hpay

section Waits

variable {sp sp' : Space} {s s' : Shape} {e e' : EltTy} {src : Memref sig .tc sp' s' e'} {dst : Memref sig .tc sp s e}

/-- One wait for an arrival in slot `o`. -/
theorem arrive_run (o : Fin 32) (ho : o ≠ 0) (hN : dst.view.dmaCredit = N p o) (hs : src.view.WordExact) (hd : dst.view.WordExact) (k : Pr F) :
    iprop(iprop(records S κ ∗ levAts L lv) ∗ iprop(cred (tallyAt (cell p c (.rcv o)) () (N p o)) ∗ atPos ER (cell p c (.rcv o)) 0 ∅ 0)
        ∗ (∃ W, owes (c : Thread nD τ) (later p c) W)
        ∗ (iprop(iprop(atPos ER (cell p c (.rcv o)) 1 ∅ 0 ∗ S.land p c o) ∗ (∃ W, owes (c : Thread nD τ) (later p c) W)) -∗ wpT c Q k))
      ⊢ wpT c Q (.op (.waitDma2 (rcvS p o) src dst hs hd) fun _ => k) := by
  iintro ⟨⟨#HR, #Hlev⟩, ⟨Hc, Hat⟩, ⟨%W, HO⟩, Hk⟩
  iapply (Rounds.wp_wait_rest_token 𝒱₀ ER (Rd S) (c : Thread nD τ) none (κ := κ (cell p c (.rcv o)))
      (wpE_waitDma2_eq 𝒱₀ (c : Thread nD τ) none Set.univ) (Set.mem_univ _) () (O := later p c) (W := W) (R := 0) (m := 0) (T := ∅)
      (((Nat.zero_add _).trans hN).trans (expect_rcv S p c o ho).symm)) $$ [Hc HO Hat]
  · isplitr; · iapply (inv_at S κ p c (.rcv o)); iexact HR
    isplitl [Hc]; · rw [hN]; iexact Hc
    isplitl [HO]; · iexact HO
    isplitr
    · iapply (may_wait (F := F) c (semL p (.rcv o)) (2 * p.val + 2) (later p c) (le_of_eq (lv_cell p c (.rcv o))) (fun g u h => later_pos h)); iexact Hlev
    iexact Hat
  iintro ⟨HO, Hat, -, Hpay⟩
  iapply Hk
  isplitr [HO]
  · isplitl [Hat]; · iexact Hat
    iapply (show bigSep ((Rd S).duties ((c : Thread nD τ), .dma (rcvS p o)) 0 \ ∅) (fun d => (Rd S).payload ((c : Thread nD τ), .dma (rcvS p o)) 0 d) ⊢ S.land p c o from
    Entails.of_eq (rest_rcv S p c o ho)) $$ Hpay
  · iexists _; iexact HO

/-- One wait for the departure from row `o`. -/
theorem sent_run (o : Fin 32) (ho : o ≠ 0) (hN : dst.view.dmaCredit = N p o) (hs : src.view.WordExact) (hd : dst.view.WordExact) (k : Pr F) :
    iprop(iprop(records S κ ∗ levAts L lv) ∗ iprop(cred (tallyAt (cell p c (.snd o)) () (N p o)) ∗ atPos ER (cell p c (.snd o)) 0 ∅ 0)
        ∗ (∃ W, owes (c : Thread nD τ) (later p c) W)
        ∗ (iprop(iprop(atPos ER (cell p c (.snd o)) 1 ∅ 0 ∗ S.back p c o) ∗ (∃ W, owes (c : Thread nD τ) (later p c) W)) -∗ wpT c Q k))
      ⊢ wpT c Q (.op (.waitDma2 (sndS p o) src dst hs hd) fun _ => k) := by
  iintro ⟨⟨#HR, #Hlev⟩, ⟨Hc, Hat⟩, ⟨%W, HO⟩, Hk⟩
  iapply (Rounds.wp_wait_rest_token 𝒱₀ ER (Rd S) (c : Thread nD τ) none (κ := κ (cell p c (.snd o)))
      (wpE_waitDma2_eq 𝒱₀ (c : Thread nD τ) none Set.univ) (Set.mem_univ _) () (O := later p c) (W := W) (R := 0) (m := 0) (T := ∅)
      (((Nat.zero_add _).trans hN).trans (expect_snd S p c o ho).symm)) $$ [Hc HO Hat]
  · isplitr; · iapply (inv_at S κ p c (.snd o)); iexact HR
    isplitl [Hc]; · rw [hN]; iexact Hc
    isplitl [HO]; · iexact HO
    isplitr
    · iapply (may_wait (F := F) c (semL p (.snd o)) (2 * p.val + 2) (later p c)
        (by rw [show lv ((c : Thread nD τ), semL p (.snd o)) () = lv (cell p c (.snd o)) () from rfl, lv_cell]; exact Nat.zero_le _)
        (fun g u h => later_pos h)); iexact Hlev
    iexact Hat
  iintro ⟨HO, Hat, -, Hpay⟩
  iapply Hk
  isplitr [HO]
  · isplitl [Hat]; · iexact Hat
    iapply (show bigSep ((Rd S).duties ((c : Thread nD τ), .dma (sndS p o)) 0 \ ∅) (fun d => (Rd S).payload ((c : Thread nD τ), .dma (sndS p o)) 0 d) ⊢ S.back p c o from
    Entails.of_eq (rest_snd S p c o ho)) $$ Hpay
  · iexists _; iexact HO

end Waits

section Send

variable {sp sp' : Space} {s : Shape} {e : EltTy} {src : Memref sig .tc sp s e} {dst : Memref sig .tc sp' s e}

/-- What a copy from row `o` uses up beside the row: the target's slot, the two tokens, the two records. -/
def sendArg (o : Fin 32) : sProp 𝕄 :=
  iprop((S.free p (c + o : Fin 32) o ∗ reached ER (cell p (c + o : Fin 32) (.rcv o)) 0)
    ∗ dutyTok ER (cell p c (.snd o)) 0 0 ∗ reached ER (cell p c (.snd o)) 0 ∗ dutyTok ER (cell p (c + o : Fin 32) (.rcv o)) 0 0)

/-- One copy, from row `o` to the device `o` places on. -/
theorem send_run (o : Fin 32) (ho : o ≠ 0) (c' : Dev nD) (hc' : c' = (c + o : Fin 32)) (X : s.Idx → Elt F e)
    (hN : dst.view.amount (.dma (rcvS p o)) = N p o)
    (hfree : S.free p c' o ⊢ iprop(∃ Y, owns (c' : Thread nD τ) dst fullShare Y))
    (hback : owns (c : Thread nD τ) src fullShare X ⊢ S.back p c o)
    (hland : owns (c' : Thread nD τ) dst fullShare X ⊢ S.land p c' o)
    {hsc : dst.view.ref.isScScratch = false} {hsrc : src.view.WordExact} {hdst : dst.view.WordExact}
    {hsem : DmaTarget.Typed sp (.dma (rcvS p o)) (.remote (Dev.tc c') dst (.dma (sndS p o)) hsc)} (O : CT) (W : Waits sig Unit) (k : Pr F) :
    iprop(records S κ ∗ iprop(owns (c : Thread nD τ) src fullShare X ∗ sendArg S p c o)
        ∗ owes (c : Thread nD τ) (O + tallyAt (cell p (c + o : Fin 32) (.rcv o)) () (N p o)) W
        ∗ (iprop(cred (tallyAt (cell p c (.snd o)) () (N p o)) ∗ owes (c : Thread nD τ) O W) -∗ wpT c Q k))
      ⊢ wpT c Q (.op (.enqueueDma src (.remote (Dev.tc c') dst (.dma (sndS p o)) hsc) (.dma (rcvS p o)) hsrc hdst hsem) fun _ => k) := by
  subst hc'
  unfold sendArg
  iintro ⟨#HR, ⟨Hsrc, ⟨Hfree, Hrr⟩, Hts, Hrs, Htr⟩, HO, Hk⟩
  ihave Hd := hfree $$ Hfree
  unfold owns
  icases Hd with ⟨%Y, %fd, -, Hd⟩
  icases Hsrc with ⟨%fs, %hfs, Hs⟩
  iapply (Rounds.wp_send_pointsTo 𝒱₀ ER (Rd S) (c : Thread nD τ) none (c' := ((c + o : Fin 32) : Thread nD τ)) (src := src) (dst := dst)
      (sS := .dma (sndS p o)) (sem := .dma (rcvS p o)) (q := fullShare) (fs := fs) (fd := fd)
      (κ₁ := κ (cell p c (.snd o))) (κ₂ := κ (cell p (c + o : Fin 32) (.rcv o))) (r₁ := 0) (r₂ := 0) (d₁ := 0) (d₂ := 0)
      (show (0 : Dev nD) ∈ (Rd S).duties (cell p c (.snd o)) 0 by
        rw [duties_zero, show dutiesOf (some (p, Role.snd o)) = {0} from if_neg ho]; exact Finset.mem_singleton_self _)
      (show (0 : Dev nD) ∈ (Rd S).duties (cell p (c + o : Fin 32) (.rcv o)) 0 by
        rw [duties_zero, show dutiesOf (some (p, Role.rcv o)) = {0} from if_neg ho]; exact Finset.mem_singleton_self _)
      () () (N p o) hN (amount_eq S p c (.snd o) 0 0) (amount_eq S p (c + o : Fin 32) (.rcv o) 0 0) O rfl (W := W)
      (by
        refine BI.Entails.trans ?_ (Entails.of_eq (payload_eq S p c (.snd o) 0 0).symm)
        refine BI.Entails.trans ?_ hback
        exact (owns_intro (c : Thread nD τ) src fullShare fs).trans (Entails.of_eq (by rw [hfs])))
      (by
        refine BI.Entails.trans ?_ (Entails.of_eq (payload_eq S p (c + o : Fin 32) (.rcv o) 0 0).symm)
        refine BI.Entails.trans ?_ hland
        exact (owns_intro ((c + o : Fin 32) : Thread nD τ) dst fullShare _).trans (Entails.of_eq (by rw [View.read_write_univ, hfs])))) $$ [Hs Hd HO Hts Hrs Htr Hrr]
  · isplitr; · iapply (inv_at S κ p c (.snd o)); iexact HR
    isplitr; · iapply (inv_at S κ p (c + o : Fin 32) (.rcv o)); iexact HR
    isplitl [Hs]; · iexact Hs
    isplitl [Hd]; · iexact Hd
    isplitl [HO]; · iexact HO
    isplitl [Hts]; · iexact Hts
    isplitl [Hrs]; · iexact Hrs
    isplitl [Htr]; · iexact Htr
    iexact Hrr
  iexact Hk

end Send

end Cert.KernelIdeal.Own

end
-- ==== Proof.Access.lean ====
/- Loads and stores of a body, as rules about the contents of an owned buffer or of an owned slice of one. -/
module

public import proofs.«01_k».proof.Proof.Talk

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

/-- Contents `X` with the elements `q` names replaced by `w`. -/
def upd {I J : Type} {A : Type _} (q : I → J) (X : J → A) (w : I → A) : J → A := fun y =>
  open scoped Classical in if h : ∃ j, q j = y then w h.choose else X y

theorem upd_hit {I J : Type} {A : Type _} {q : I → J} (hq : Function.Injective q) (X : J → A) (w : I → A) (j : I) :
    upd q X w (q j) = w j := by
  unfold upd
  rw [dif_pos ⟨j, rfl⟩]
  exact congrArg w (hq (Exists.choose_spec (⟨j, rfl⟩ : ∃ i, q i = q j)))

theorem upd_miss {I J : Type} {A : Type _} {q : I → J} (X : J → A) (w : I → A) {y : J} (h : ∀ j, q j ≠ y) :
    upd q X w y = X y := by
  unfold upd
  rw [dif_neg fun ⟨j, hj⟩ => h j hj]

variable {F : FTy → Type} [FloatOps F]

local notation "𝕄" => MT nD τ sig Unit (Elt F) ℕ UU ℕ

variable (c : Dev nD) (Q : PUnit → sProp (MT nD τ sig Unit (Elt F) ℕ UU ℕ)) {s : Shape} {e : EltTy} (m : Memref sig .tc .vmem s e)

/-- A load from an owned buffer. -/
theorem ld (r : Rect s) {hl : m.view.LoadsAt r} (q : PosShare TreeShare) (X : s.Idx → Elt F e)
    (k : (r.shape.Idx → Elt F e) → Pr F) :
    iprop(owns (c : Thread nD τ) m q X ∗ iprop(owns (c : Thread nD τ) m q X -∗ wpT c Q (k fun j => X (r.emb j))))
      ⊢ wpT c Q (.op (.load m r.toLoadRect hl) k) := by
  unfold owns
  iintro ⟨⟨%f, %hf, H⟩, Hk⟩
  subst hf
  iapply (wp_load_rect 𝒱₀ (c : Thread nD τ) none Set.univ (m := m) (r := r) (hl := hl) (k := k) (f := f) (View.set_slice_subset _ _)) $$ H
  iintro H
  iapply Hk
  iexists f
  isplitr; · ipureintro; rfl
  iexact H

/-- A store to an owned buffer. -/
theorem st (r : Rect s) {hx : (m.access r).Stores Finset.univ} {hm} (X : s.Idx → Elt F e) (w : r.shape.Idx → Elt F e) (k : Pr F) :
    iprop(owns (c : Thread nD τ) m fullShare X ∗ iprop(owns (c : Thread nD τ) m fullShare (upd r.emb X w) -∗ wpT c Q k))
      ⊢ wpT c Q (.op (.store m r w Finset.univ hx hm) fun _ => k) := by
  unfold owns
  iintro ⟨⟨%f, %hf, H⟩, Hk⟩
  subst hf
  iapply (wp_store 𝒱₀ (c : Thread nD τ) none Set.univ (m := m) (r := r) (w := w) (hx := hx) (hm := hm) (f := f) (S := m.view.set)
    (by exact View.set_slice_subset _ _)) $$ H
  iintro H
  iapply Hk
  iexists ((m.access r).write (Elt F) f w Finset.univ)
  isplitr
  · ipureintro
    funext y
    by_cases h : ∃ j, r.emb j = y
    · obtain ⟨j, rfl⟩ := h
      rw [upd_hit r.emb.injective]
      exact View.read_slice_write_emb (v := m.view) r f w (Finset.mem_univ j)
    · rw [upd_miss _ _ fun j hj => h ⟨j, hj⟩]
      exact View.read_slice_write_of_not_mem (v := m.view) r f w Finset.univ fun hm => by
        obtain ⟨j, -, hj⟩ := Finset.mem_map.mp hm
        exact h ⟨j, hj⟩
  iexact H

variable (R : Rect s) (hR : ∀ a, R.stride a = 1) (r : Rect s) (q : r.shape.Idx → R.shape.Idx) (hq : ∀ j, r.emb j = R.emb (q j))

include hq in
theorem slice_subset : (m.access r).set ⊆ (m.slice R hR).view.set := by
  intro i hi
  obtain ⟨j, -, rfl⟩ := Finset.mem_map.mp hi
  refine Finset.mem_map.mpr ⟨q j, Finset.mem_univ _, ?_⟩
  show m.view.emb (R.emb (q j)) = m.view.emb (r.emb j)
  rw [hq]

include hq in
theorem slice_inj : Function.Injective q := fun a b h => r.emb.injective ((hq a).trans ((congrArg R.emb h).trans (hq b).symm))

include hq in
/-- A load from within an owned slice. -/
theorem ldS {hl : m.view.LoadsAt r} (sh : PosShare TreeShare) (X : R.shape.Idx → Elt F e) (k : (r.shape.Idx → Elt F e) → Pr F) :
    iprop(owns (c : Thread nD τ) (m.slice R hR) sh X ∗ iprop(owns (c : Thread nD τ) (m.slice R hR) sh X -∗ wpT c Q (k fun j => X (q j))))
      ⊢ wpT c Q (.op (.load m r.toLoadRect hl) k) := by
  unfold owns
  iintro ⟨⟨%f, %hf, H⟩, Hk⟩
  iapply (wp_load_rect 𝒱₀ (c : Thread nD τ) none Set.univ (m := m) (r := r) (hl := hl) (k := k) (f := f) (slice_subset m R hR r q hq)) $$ H
  iintro H
  rw [show (m.access r).read (Elt F) f = fun j => X (q j) from by
    subst hf
    funext j
    show m.view.read (Elt F) f (r.emb j) = m.view.read (Elt F) f (R.emb (q j))
    rw [hq]]
  iapply Hk
  iexists f
  isplitr; · ipureintro; exact hf
  iexact H

include hq in
/-- A store into an owned slice. -/
theorem stS {hx : (m.access r).Stores Finset.univ} {hm} (X : R.shape.Idx → Elt F e) (w : r.shape.Idx → Elt F e) (k : Pr F) :
    iprop(owns (c : Thread nD τ) (m.slice R hR) fullShare X
        ∗ iprop(owns (c : Thread nD τ) (m.slice R hR) fullShare (upd q X w) -∗ wpT c Q k))
      ⊢ wpT c Q (.op (.store m r w Finset.univ hx hm) fun _ => k) := by
  unfold owns
  iintro ⟨⟨%f, %hf, H⟩, Hk⟩
  subst hf
  iapply (wp_store 𝒱₀ (c : Thread nD τ) none Set.univ (m := m) (r := r) (w := w) (hx := hx) (hm := hm) (f := f)
    (S := (m.slice R hR).view.set) (by exact slice_subset m R hR r q hq)) $$ H
  iintro H
  iapply Hk
  iexists ((m.access r).write (Elt F) f w Finset.univ)
  isplitr
  · ipureintro
    funext y
    show m.view.read (Elt F) _ (R.emb y) = _
    by_cases h : ∃ j, q j = y
    · obtain ⟨j, rfl⟩ := h
      rw [upd_hit (slice_inj R r q hq), ← hq]
      exact View.read_slice_write_emb (v := m.view) r f w (Finset.mem_univ j)
    · rw [upd_miss _ _ fun j hj => h ⟨j, hj⟩]
      exact View.read_slice_write_of_not_mem (v := m.view) r f w Finset.univ fun hm => by
        obtain ⟨j, -, hj⟩ := Finset.mem_map.mp hm
        exact h ⟨j, R.emb.injective ((hq j).symm.trans hj)⟩
  iexact H

end Cert.KernelIdeal.Own

end
-- ==== Proof.Tiles.lean ====
/- A 1024-row buffer as 32 blocks of 32 rows: the blocks are disjoint and cover it; its contents put together from the blocks';
   ownership of the buffer as ownership of its blocks. -/
module

public import proofs.«01_k».proof.Proof.Access
public import Idealize.ShloMosaic.Lib.Pointwise

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

/-- Two indices of a matrix are equal if their coordinates are. -/
theorem ext2 {n m : ℕ} {x y : (⟨2, ![n, m]⟩ : Shape).Idx} (h0 : (x 0).val = (y 0).val) (h1 : (x 1).val = (y 1).val) : x = y := by
  rw [eq_ix2 x, eq_ix2 y]
  exact (ix2_inj _ _ _ _).mpr ⟨Fin.ext h0, Fin.ext h1⟩

theorem lt0 {n m : ℕ} (x : (⟨2, ![n, m]⟩ : Shape).Idx) : (x 0).val < n := (x 0).isLt
theorem lt1 {n m : ℕ} (x : (⟨2, ![n, m]⟩ : Shape).Idx) : (x 1).val < m := (x 1).isLt

/-- A matrix of 1024 rows from 32 of 32 rows. -/
def tile {W : ℕ} {A : Type _} (g : Fin 32 → (⟨2, ![32, W]⟩ : Shape).Idx → A) : (⟨2, ![1024, W]⟩ : Shape).Idx → A := fun y =>
  g ⟨(y 0).val / 32, by have := lt0 y; omega⟩ (ix2 ⟨(y 0).val % 32, Nat.mod_lt _ (by decide)⟩ ⟨(y 1).val, lt1 y⟩)

/-- Its element in row `32 o + i` is the one in row `i` of block `o`. -/
theorem tile_at {W : ℕ} {A : Type _} (g : Fin 32 → (⟨2, ![32, W]⟩ : Shape).Idx → A) (y : (⟨2, ![1024, W]⟩ : Shape).Idx) (o : Fin 32)
    (j : (⟨2, ![32, W]⟩ : Shape).Idx) (h0 : (y 0).val = 32 * o.val + (j 0).val) (h1 : (y 1).val = (j 1).val) : tile g y = g o j := by
  have hj := lt0 j
  unfold tile
  have e : (⟨(y 0).val / 32, by have := lt0 y; omega⟩ : Fin 32) = o := Fin.ext (by show (y 0).val / 32 = o.val; omega)
  rw [e]
  refine congrArg (g o) (ext2 ?_ ?_)
  · show (y 0).val % 32 = _; omega
  · exact h1

/-- Rows `16 b + i` of a block of 32. -/
def inHalf {W : ℕ} (b : Fin 2) (j : (⟨2, ![16, W]⟩ : Shape).Idx) : (⟨2, ![32, W]⟩ : Shape).Idx :=
  ix2 ⟨16 * b.val + (j 0).val, by have := lt0 j; omega⟩ ⟨(j 1).val, lt1 j⟩

theorem blocks_disjoint {W : ℕ} (inb : ∀ o : Fin 32, ∀ a, (![32 * o.val, 0] : Fin 2 → ℕ) a + (![32, W] : Fin 2 → ℕ) a ≤ (⟨2, ![1024, W]⟩ : Shape).size a)
    (o o' : Fin 32) (h : o ≠ o') :
    Disjoint (Rect.unit (s := ⟨2, ![1024, W]⟩) ![32 * o.val, 0] ![32, W] (inb o)).set
      (Rect.unit (s := ⟨2, ![1024, W]⟩) ![32 * o'.val, 0] ![32, W] (inb o')).set := by
  have hv : o.val ≠ o'.val := fun e => h (Fin.ext e)
  refine Rect.unit_disjoint 0 ?_
  show 32 * o.val + 32 ≤ 32 * o'.val ∨ 32 * o'.val + 32 ≤ 32 * o.val
  omega

theorem blocks_cover {W : ℕ} (inb : ∀ o : Fin 32, ∀ a, (![32 * o.val, 0] : Fin 2 → ℕ) a + (![32, W] : Fin 2 → ℕ) a ≤ (⟨2, ![1024, W]⟩ : Shape).size a) :
    (Finset.univ : Finset (Fin 32)).biUnion (fun o => (Rect.unit (s := ⟨2, ![1024, W]⟩) ![32 * o.val, 0] ![32, W] (inb o)).set)
      = Finset.univ := by
  refine Finset.eq_univ_of_forall fun y => Finset.mem_biUnion.mpr ?_
  have h0 := lt0 y
  have h1 := lt1 y
  refine ⟨⟨(y 0).val / 32, by omega⟩, Finset.mem_univ _, Rect.mem_set_unit.mpr (Fin.forall_fin_two.mpr ⟨?_, ?_⟩)⟩
  · show 32 * ((y 0).val / 32) ≤ (y 0).val ∧ (y 0).val < 32 * ((y 0).val / 32) + 32
    omega
  · show 0 ≤ (y 1).val ∧ (y 1).val < 0 + W
    omega

variable {F : FTy → Type} [FloatOps F]

local notation "𝕄" => MT nD τ sig Unit (Elt F) ℕ UU ℕ

section Split

variable (c : Dev nD) (q : PosShare TreeShare) {W : ℕ} {e : EltTy} (m : Memref sig .tc .vmem (⟨2, ![1024, W]⟩ : Shape) e)
  (inb : ∀ o : Fin 32, ∀ a, (![32 * o.val, 0] : Fin 2 → ℕ) a + (![32, W] : Fin 2 → ℕ) a ≤ (⟨2, ![1024, W]⟩ : Shape).size a)

/-- Block `o` of a buffer. -/
abbrev block (o : Fin 32) : Memref sig .tc .vmem (⟨2, ![32, W]⟩ : Shape) e :=
  m.slice (Rect.unit (s := ⟨2, ![1024, W]⟩) ![32 * o.val, 0] ![32, W] (inb o)) (fun _ => rfl)

/-- A buffer split into its blocks, each at some contents. -/
theorem blocks_split :
    iprop(∃ X, owns (c : Thread nD τ) m q X)
      ⊢ (bigSep Finset.univ fun o : Fin 32 => iprop(∃ X, owns (c : Thread nD τ) (block m inb o) q X) : sProp 𝕄) := by
  iintro ⟨%X, H⟩
  have h : (owns (c : Thread nD τ) m q X : sProp 𝕄) ⊢ bigSep Finset.univ fun o : Fin 32 => iprop(∃ X, owns (c : Thread nD τ) (block m inb o) q X) :=
    (owns_rects (c : Thread nD τ) m q (fun o : Fin 32 => Rect.unit (s := ⟨2, ![1024, W]⟩) ![32 * o.val, 0] ![32, W] (inb o)) (fun _ _ => rfl)
      (blocks_disjoint inb) (blocks_cover inb) X).trans
    (bigSep_mono fun o _ => show (owns (c : Thread nD τ) (block m inb o) q _ : sProp 𝕄) ⊢ iprop(∃ X, owns (c : Thread nD τ) (block m inb o) q X) by
      iintro H; iexists _; iexact H)
  iapply h $$ H

/-- The blocks of a buffer put together. -/
theorem blocks_join [∀ e, Nonempty (Elt F e)] (g : Fin 32 → (⟨2, ![32, W]⟩ : Shape).Idx → Elt F e) :
    (bigSep Finset.univ fun o : Fin 32 => owns (c : Thread nD τ) (block m inb o) q (g o))
      ⊢ (owns (c : Thread nD τ) m q (tile g) : sProp 𝕄) := by
  refine BI.Entails.trans ?_ (owns_of_rects (c : Thread nD τ) m q (fun o : Fin 32 => Rect.unit (s := ⟨2, ![1024, W]⟩) ![32 * o.val, 0] ![32, W] (inb o)) (fun _ _ => rfl)
    (blocks_disjoint inb) (blocks_cover inb) (tile g))
  refine Entails.of_eq (bigSep_congr fun o _ => congrArg (owns (c : Thread nD τ) _ q) (funext fun j => ?_))
  refine (tile_at g _ o j ?_ ?_).symm
  · show 32 * o.val + 1 * (j 0).val = _; omega
  · show 0 + 1 * (j 1).val = _; omega

/-- As `blocks_join`, each block at some contents. -/
theorem blocks_join_any [∀ e, Nonempty (Elt F e)] :
    (bigSep Finset.univ fun o : Fin 32 => iprop(∃ X, owns (c : Thread nD τ) (block m inb o) q X))
      ⊢ (iprop(∃ X, owns (c : Thread nD τ) m q X) : sProp 𝕄) := by
  have : Nonempty ((⟨2, ![32, W]⟩ : Shape).Idx → Elt F e) := ⟨fun _ => Classical.arbitrary _⟩
  iintro H
  ihave H := (bigSep_exists_pi (Finset.univ : Finset (Fin 32)) (fun (o : Fin 32) (X : (⟨2, ![32, W]⟩ : Shape).Idx → Elt F e) =>
    (owns (c : Thread nD τ) (block m inb o) q X : sProp 𝕄))) $$ H
  icases H with ⟨%g, H⟩
  iexists (tile g)
  iapply (blocks_join c q m inb g) $$ H

end Split

end Cert.KernelIdeal.Own

end
-- ==== Proof.Phase.lean ====
/- A phase's talking, from the opened semaphores to the barrier passed, and from all waits done to the semaphores closed. -/
module

public import proofs.«01_k».proof.Proof.Talk
public import Idealize.ShloMosaic.Harness.Basic

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (S : Slots F) (κ : GSem nD τ sig → ℕ) (p : Fin 2) (c : Dev nD) (Q : PUnit → sProp (MT nD τ sig Unit (Elt F) ℕ UU ℕ))

/-- Two families over the same indices are one of pairs. -/
theorem pairUp {M : Type} [URA M] {I : Type} [Fintype I] {Φ Ψ : I → sProp M} :
    iprop(bigSep Finset.univ Φ ∗ bigSep Finset.univ Ψ) ⊢ bigSep Finset.univ fun i => iprop(Φ i ∗ Ψ i) :=
  Entails.of_eq (bigSep_sep _ _ _).symm
theorem pairDown {M : Type} [URA M] {I : Type} [Fintype I] {Φ Ψ : I → sProp M} :
    (bigSep Finset.univ fun i => iprop(Φ i ∗ Ψ i)) ⊢ iprop(bigSep Finset.univ Φ ∗ bigSep Finset.univ Ψ) :=
  Entails.of_eq (bigSep_sep _ _ _)

theorem family_bool {M : Type} [URA M] (Φ : Bool → sProp M) : bigSep Finset.univ Φ = iprop(Φ false ∗ Φ true) := by
  rw [show (Finset.univ : Finset Bool) = {false, true} from by decide, bigSep_insert (by decide), bigSep_singleton]; rfl

/-- The tokens device `c` pays with in phase `p`. -/
def toks : sProp 𝕄 :=
  iprop((bigSep Finset.univ fun d : Fin 32 => dutyTok ER (cell p d .bar) 0 c)
    ∗ bigSep Finset.univ fun o : Fin 31 => iprop(dutyTok ER (cell p c (.snd o.succ)) 0 0
        ∗ dutyTok ER (cell p (c + o.succ : Fin 32) (.rcv o.succ)) 0 0))
/-- The credit it waits with. -/
def creds : sProp 𝕄 :=
  iprop(cred (tallyAt (cell p c .bar) () 32)
    ∗ bigSep Finset.univ fun o : Fin 31 => cred (tallyAt (cell p c (.rcv o.succ)) () (N p o.succ)))
/-- Its own semaphores of the phase, just opened. -/
def fresh : sProp 𝕄 :=
  bigSep Finset.univ fun k : Bool × Fin 32 =>
    iprop(atPos ER (cell p c (rl k.1 k.2)) 0 ∅ 0 ∗ reached ER (cell p c (rl k.1 k.2)) 0)

/-- After the barrier: what the copies and the waits use. -/
def mid : sProp 𝕄 :=
  iprop(iprop(atPos ER (cell p c .bar) 1 ∅ 0 ∗ atPos ER (cell p c (.snd 0)) 0 ∅ 0 ∗ atPos ER (cell p c (.rcv 0)) 0 ∅ 0)
    ∗ (bigSep Finset.univ fun o : Fin 31 => atPos ER (cell p c (.snd o.succ)) 0 ∅ 0)
    ∗ (bigSep Finset.univ fun o : Fin 31 => sendArg S p c o.succ)
    ∗ (bigSep Finset.univ fun o : Fin 31 =>
        iprop(cred (tallyAt (cell p c (.rcv o.succ)) () (N p o.succ)) ∗ atPos ER (cell p c (.rcv o.succ)) 0 ∅ 0))
    ∗ S.free p c 0)

theorem fresh_eq : fresh p c ⊢ (iprop((atPos ER (cell p c (.snd 0)) 0 ∅ 0 ∗ bigSep Finset.univ fun o : Fin 31 => atPos ER (cell p c (.snd o.succ)) 0 ∅ 0)
      ∗ (bigSep Finset.univ fun o : Fin 31 => reached ER (cell p c (.snd o.succ)) 0)
      ∗ (atPos ER (cell p c (.rcv 0)) 0 ∅ 0 ∗ bigSep Finset.univ fun o : Fin 31 => atPos ER (cell p c (.rcv o.succ)) 0 ∅ 0)
      ∗ bigSep Finset.univ fun o : Fin 32 => reached ER (cell p c (.rcv o)) 0) : sProp 𝕄) := by
  rw [show (fresh p c : sProp 𝕄) = iprop((bigSep Finset.univ fun o : Fin 32 => iprop(atPos ER (cell p c (.snd o)) 0 ∅ 0 ∗ reached ER (cell p c (.snd o)) 0))
      ∗ bigSep Finset.univ fun o : Fin 32 => iprop(atPos ER (cell p c (.rcv o)) 0 ∅ 0 ∗ reached ER (cell p c (.rcv o)) 0)) from by
    unfold fresh; rw [bigSep_univ_prod, family_bool]; rfl]
  iintro ⟨H1, H2⟩
  ihave H1 := pairDown $$ H1
  ihave H2 := pairDown $$ H2
  icases H1 with ⟨H1, H1r⟩
  icases H2 with ⟨H2, H2r⟩
  isplitl [H1]; · iapply (Entails.of_eq (family_succ fun o : Fin 32 => (atPos ER (cell p c (.snd o)) 0 ∅ 0 : sProp 𝕄))) $$ H1
  isplitl [H1r]
  · ihave H := (Entails.of_eq (family_succ fun o : Fin 32 => (reached ER (cell p c (.snd o)) 0 : sProp 𝕄))) $$ H1r
    icases H with ⟨-, H⟩; iexact H
  isplitl [H2]; · iapply (Entails.of_eq (family_succ fun o : Fin 32 => (atPos ER (cell p c (.rcv o)) 0 ∅ 0 : sProp 𝕄))) $$ H2
  iexact H2r

/-- The signals and the barrier wait of phase `p`. -/
theorem talk_open (k : Pr F) :
    iprop(iprop(records S κ ∗ levAts L lv) ∗ iprop(atPos ER (cell p c .bar) 0 ∅ 0 ∗ fresh p c ∗ toks p c ∗ creds p c)
        ∗ (bigSep Finset.univ fun o : Fin 32 => S.free p c o) ∗ (∃ W, owes (c : Thread nD τ) (later p c + dues p c) W)
        ∗ (iprop(mid S p c ∗ ∃ W, owes (c : Thread nD τ) (later p c + sends p c) W) -∗ wpT c Q k))
      ⊢ wpT c Q (each 32 (signalP p) (.op (.semWait (barS p) (32#32).toInt) fun _ => k)) := by
  iintro ⟨⟨#HR, #Hlev⟩, ⟨Hab, Hf, Ht, Hcr⟩, Hfree, ⟨%W, HO⟩, Hk⟩
  unfold toks creds
  icases Ht with ⟨Htb, Hts⟩
  icases Hcr with ⟨Hcb, Hcr⟩
  ihave Hf := (fresh_eq (F := F) p c) $$ Hf
  icases Hf with ⟨⟨Has0, Has⟩, #Hrs, ⟨Har0, Har⟩, #Hrr⟩
  iapply (signals_run S κ p c Q (later p c + sends p c) W)
  isplitr; · iexact HR
  isplitl [Htb Hfree]
  · unfold signalArg
    iapply pairUp
    isplitl [Htb]; · iexact Htb
    iapply pairUp
    isplitl [Hfree]
    · iapply (Entails.of_eq (bigSep_univ_equiv (Equiv.subLeft (c : Fin 32)) fun o : Fin 32 => S.free p c o)) $$ Hfree
    · iapply (Entails.of_eq (bigSep_univ_equiv (Equiv.subLeft (c : Fin 32)) fun o : Fin 32 => (reached ER (cell p c (.rcv o)) 0 : sProp 𝕄))); iexact Hrr
  isplitl [HO]
  · rw [show later p c + dues p c = later p c + sends p c + signals p from (add_assoc _ _ _).symm]; iexact HO
  iintro HO
  iapply (barrier_run S κ p c Q W k)
  isplitr; · iexact HR
  isplitr; · iexact Hlev
  isplitl [Hcb]; · iexact Hcb
  isplitl [HO]; · iexact HO
  isplitl [Hab]; · iexact Hab
  iintro ⟨HO, Hab, Hfs⟩
  iapply Hk
  isplitr [HO]
  rotate_left
  · iexact HO
  ihave Hfs := (Entails.of_eq (bigSep_univ_equiv (Equiv.addLeft (c : Fin 32)) fun d : Fin 32 =>
    iprop(S.free p d (d - c : Fin 32) ∗ reached ER (cell p d (.rcv (d - c : Fin 32))) 0))) $$ Hfs
  ihave Hfs := (show (bigSep Finset.univ fun o : Fin 32 => iprop(S.free p (Equiv.addLeft (c : Fin 32) o) (Equiv.addLeft (c : Fin 32) o - c : Fin 32)
      ∗ reached ER (cell p (Equiv.addLeft (c : Fin 32) o) (.rcv (Equiv.addLeft (c : Fin 32) o - c : Fin 32))) 0))
      ⊢ bigSep Finset.univ fun o : Fin 32 => iprop(S.free p (c + o : Fin 32) o ∗ reached ER (cell p (c + o : Fin 32) (.rcv o)) 0) from
      Entails.of_eq (bigSep_congr fun o _ => by rw [Equiv.coe_addLeft, add_sub_cancel_left])) $$ Hfs
  ihave Hfs := (Entails.of_eq (family_succ fun o : Fin 32 => iprop(S.free p (c + o : Fin 32) o ∗ reached ER (cell p (c + o : Fin 32) (.rcv o)) 0))) $$ Hfs
  icases Hfs with ⟨⟨Hf0, -⟩, Hfs⟩
  unfold mid
  isplitl [Hab Has0 Har0]
  · isplitl [Hab]; · iexact Hab
    isplitl [Has0]; · iexact Has0
    iexact Har0
  isplitl [Has]; · iexact Has
  isplitl [Hfs Hts]
  · unfold sendArg
    iapply pairUp
    isplitl [Hfs]; · iexact Hfs
    ihave Hts := pairDown $$ Hts
    icases Hts with ⟨Hta, Htb⟩
    iapply pairUp
    isplitl [Hta]; · iexact Hta
    iapply pairUp
    isplitr; · iexact Hrs
    iexact Htb
  isplitl [Hcr Har]
  · iapply pairUp
    isplitl [Hcr]; · iexact Hcr
    iexact Har
  rw [show (c + 0 : Fin 32) = c from add_zero c]
  iexact Hf0

/-- The positions of one kind of semaphore as one family: slot 0 never used, the others done. -/
theorem closing_family (b : Bool) :
    iprop(atPos ER (cell p c (rl b 0)) 0 ∅ 0 ∗ bigSep Finset.univ fun o : Fin 31 => atPos ER (cell p c (rl b o.succ)) 1 ∅ 0)
      ⊢ (bigSep Finset.univ fun o : Fin 32 => atPos ER (cell p c (rl b o)) (if o = 0 then 0 else 1) ∅ 0 : sProp 𝕄) := by
  refine BI.Entails.trans ?_ (Entails.of_eq (family_succ (n := 31) fun o : Fin 32 =>
    (atPos ER (cell p c (rl b o)) (if o = 0 then 0 else 1) ∅ 0 : sProp 𝕄)).symm)
  refine Entails.of_eq (congrArg (fun X : sProp 𝕄 => iprop(atPos ER (cell p c (rl b 0)) 0 ∅ 0 ∗ X)) (bigSep_congr fun o _ => ?_))
  rw [if_neg (Fin.succ_ne_zero o)]

/-- The phase's semaphores closed, each back at zero. -/
theorem talk_close :
    iprop(records S κ ∗ iprop(atPos ER (cell p c .bar) 1 ∅ 0 ∗ atPos ER (cell p c (.snd 0)) 0 ∅ 0 ∗ atPos ER (cell p c (.rcv 0)) 0 ∅ 0)
        ∗ (bigSep Finset.univ fun o : Fin 31 => atPos ER (cell p c (.snd o.succ)) 1 ∅ 0)
        ∗ bigSep Finset.univ fun o : Fin 31 => atPos ER (cell p c (.rcv o.succ)) 1 ∅ 0)
      ⊢ (|={Set.univ}=> iprop(semVal (cell p c .bar) 0 ∗ Pipeline.ownSems0 (osem p) c) : sProp 𝕄) := by
  iintro ⟨#HR, ⟨Hab, Hs0, Hr0⟩, Hs, Hr⟩
  imod (show iprop(cellInv ER (Rd S) (κ (cell p c .bar)) (cell p c .bar) ∗ atPos ER (cell p c .bar) 1 ∅ 0)
    ⊢ (|={Set.univ}=> semVal (cell p c .bar) 0 : sProp 𝕄) from
    Rounds.cell_close ER (Rd S) (Set.mem_univ _) id (duties_later S _)) $$ [Hab] with Hb
  · isplitr; · iapply (inv_at S κ p c .bar); iexact HR
    iexact Hab
  imod (Rounds.cells_close ER (Rd S) (Finset.univ : Finset (Bool × Fin 32)) (fun k => cell p c (rl k.1 k.2)) (fun k => κ (cell p c (rl k.1 k.2)))
    (fun _ _ => Set.mem_univ _) (fun _ _ => id) (fun k => if k.2 = 0 then 0 else 1)
    (fun k _ r hr => by
      by_cases h : k.2 = 0
      · by_cases h0 : r = 0
        · subst h0; rw [duties_zero]
          rcases k with ⟨b, o⟩; obtain rfl : o = 0 := h
          cases b
          · simp [dutiesOf, rl]
          · simp [dutiesOf, rl]
        · exact duties_later S _ r (by omega)
      · rw [if_neg h] at hr; exact duties_later S _ r hr)) $$ [Hs0 Hr0 Hs Hr] with Hz
  · iapply (bigSep_with_persistent (R := records S κ) (Φ := fun k : Bool × Fin 32 => atPos ER (cell p c (rl k.1 k.2)) (if k.2 = 0 then 0 else 1) ∅ 0)
      fun k _ => by
        iintro ⟨#HR, H⟩
        isplitr; · iapply (inv_at S κ p c (rl k.1 k.2)); iexact HR
        iexact H)
    isplitr; · iexact HR
    rw [bigSep_univ_prod, family_bool]
    isplitl [Hs0 Hs]
    · iapply (closing_family (F := F) p c false)
      isplitl [Hs0]; · iexact Hs0
      iexact Hs
    · iapply (closing_family (F := F) p c true)
      isplitl [Hr0]; · iexact Hr0
      iexact Hr
  imodintro
  isplitl [Hb]; · iexact Hb
  unfold Pipeline.ownSems0
  iexact Hz

/-- The phase's semaphores opened. -/
theorem talk_fresh :
    iprop(records S κ ∗ (bigSep Finset.univ fun k : Bool × Fin 32 => openTok ER (cell p c (rl k.1 k.2))) ∗ Pipeline.ownSems0 (osem p) c)
      ⊢ (|={Set.univ}=> fresh p c : sProp 𝕄) := by
  unfold fresh Pipeline.ownSems0
  iintro ⟨#HR, Ho, Hz⟩
  iapply (Rounds.cells_open ER (Rd S) (Finset.univ : Finset (Bool × Fin 32)) (fun k => cell p c (rl k.1 k.2)) (fun k => κ (cell p c (rl k.1 k.2)))
    (fun _ _ => Set.mem_univ _))
  isplitl [Ho]
  · iapply (bigSep_with_persistent (R := records S κ) (Φ := fun k : Bool × Fin 32 => openTok ER (cell p c (rl k.1 k.2)))
      fun k _ => by
        iintro ⟨#HR, H⟩
        isplitr; · iapply (inv_at S κ p c (rl k.1 k.2)); iexact HR
        iexact H)
    isplitr; · iexact HR
    iexact Ho
  iexact Hz

end Cert.KernelIdeal.Own

end
-- ==== Proof.Slots.lean ====
/- What changes hands in the two phases: the rows of the landing buffers and of the send buffers, each landed block at the contents
   its sender gave it. -/
module

public import proofs.«01_k».proof.Proof.Tiles
public import proofs.«01_k».proof.Proof.Phase

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type}

local notation "𝕄" => MT nD τ sig Unit (Elt F) ℕ UU ℕ

section Store

variable (c : Dev nD) {sp : Space} {s : Shape} {e : EltTy} (m : Memref sig .tc sp s e)

theorem owns_stored (X : s.Idx → Elt F e) : BI.Storable (upEmb : UEmb _ 𝕄) (owns (c : Thread nD τ) m fullShare X) := by
  unfold owns; infer_instance
theorem owns_any_stored : BI.Storable (upEmb : UEmb _ 𝕄) iprop(∃ X, owns (c : Thread nD τ) m fullShare X) := by
  have := owns_stored (F := F) c m
  infer_instance

end Store

variable (blk0 : Dev nD → Fin 32 → S32x640.Idx → Elt F .bf16) (blk1 : Dev nD → Fin 32 → S32x768.Idx → Elt F .bf16)

variable (F) in
def freeS : Fin 2 → Dev nD → Fin 32 → sProp (MT nD τ sig Unit (Elt F) ℕ UU ℕ)
  | 0, c, o => iprop(∃ Y, owns (c : Thread nD τ) (rbufRow o) fullShare Y)
  | 1, c, o => iprop(∃ Y, owns (c : Thread nD τ) (gbufRow o) fullShare Y)
variable (F) in
def backS : Fin 2 → Dev nD → Fin 32 → sProp (MT nD τ sig Unit (Elt F) ℕ UU ℕ)
  | 0, c, o => iprop(∃ Y, owns (c : Thread nD τ) (sbufRow o) fullShare Y)
  | 1, c, o => iprop(∃ Y, owns (c : Thread nD τ) (sobRow o) fullShare Y)
def landS : Fin 2 → Dev nD → Fin 32 → sProp (MT nD τ sig Unit (Elt F) ℕ UU ℕ)
  | 0, c, o => owns (c : Thread nD τ) (rbufRow o) fullShare (blk0 c o)
  | 1, c, o => owns (c : Thread nD τ) (gbufRow o) fullShare (blk1 c o)

/-- The rows as the protocol's slots. -/
def slots : Slots F where
  free := freeS F
  back := backS F
  land := landS blk0 blk1
  sfree
    | 0, c, o => owns_any_stored c (rbufRow o)
    | 1, c, o => owns_any_stored c (gbufRow o)
  sback
    | 0, c, o => owns_any_stored c (sbufRow o)
    | 1, c, o => owns_any_stored c (sobRow o)
  sland
    | 0, c, o => owns_stored c (rbufRow o) (blk0 c o)
    | 1, c, o => owns_stored c (gbufRow o) (blk1 c o)

theorem device_run [FloatOps F] (c : Dev nD) (Q : PUnit → sProp (MT nD τ sig Unit (Elt F) ℕ UU ℕ)) (k : Dev nD → Pr F) :
    wpT c Q (k c) ⊢ wpT c Q (.op .deviceId k) :=
  Entails.of_eq (wp_deviceId 𝒱₀ (c : Thread nD τ) none Set.univ).symm
theorem end_run [FloatOps F] (c : Dev nD) (Q : PUnit → sProp (MT nD τ sig Unit (Elt F) ℕ UU ℕ)) (x : PUnit) :
    (|={Set.univ}=> Q x : sProp 𝕄) ⊢ wpT c Q (.ret x) :=
  Entails.of_eq (by unfold wpT; rw [wp_ret])

theorem upd_id {I : Type} {A : Type _} (X w : I → A) : upd (fun j => j) X w = w :=
  funext fun j => upd_hit (q := fun j : I => j) (fun _ _ h => h) X w j

end Cert.KernelIdeal.Own

end
-- ==== Proof.Run1.lean ====
/- The second call's body run: from the chunk in its window to the 32 devices' chunks in the result. -/
module

public import proofs.«01_k».proof.Proof.Slots

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- What a device sends when its chunk is `X`. -/
def sentV (X : S32x768.Idx → Elt F .bf16) : S32x768.Idx → Elt F .bf16 :=
  k1_pay1 fun j => X ((Rect.unit (s := S32x768) ![0, 0] S32x768.size inb_S32x768_S32x768_0_0).emb j)

/-- Half `b` of device `d`'s chunk, widened. -/
def partV (oc : Dev nD → S32x768.Idx → Elt F .bf16) (d : Fin 32) (b : Fin 2) : S16x768.Idx → Elt F .f32 :=
  k1_pay39 fun j => sentV (oc d) (inHalf b j)

/-- The gathered result: row `512 b + 16 d + i` is row `i` of half `b` of device `d`'s chunk. -/
def gathered (oc : Dev nD → S32x768.Idx → Elt F .bf16) : S1024x768.Idx → Elt F .f32 := fun y =>
  partV oc ⟨(y 0).val % 512 / 16, by omega⟩ ⟨(y 0).val / 512, by have := lt0 y; omega⟩
    (ix2 ⟨(y 0).val % 16, Nat.mod_lt _ (by decide)⟩ ⟨(y 1).val, lt1 y⟩)

theorem off1_row : ∀ (d0 : Dev nD) (c : Fin 32) (b : Fin 2),
    k1_off1 d0 (BitVec.ofNat 32 c.val) (BitVec.ofNat 32 (16 * b.val)) 0 = 32 * (d0 - c : Fin 32).val + 16 * b.val := by
  decide +kernel
theorem off1_col : ∀ (d0 : Dev nD) (c : Fin 32) (b : Fin 2),
    k1_off1 d0 (BitVec.ofNat 32 c.val) (BitVec.ofNat 32 (16 * b.val)) 1 = 0 := by
  decide +kernel

variable (blk0 : Dev nD → Fin 32 → S32x640.Idx → Elt F .bf16) (oc : Dev nD → S32x768.Idx → Elt F .bf16)
  (κ : GSem nD τ sig → ℕ) (c : Dev nD) (Q : PUnit → sProp (MT nD τ sig Unit (Elt F) ℕ UU ℕ))

/-- What lands in slot `o` of device `c`: the chunk of the device `o` places back. -/
abbrev blk1 : Dev nD → Fin 32 → S32x768.Idx → Elt F .bf16 := fun c o => sentV (oc (c - o : Fin 32))

theorem stage1_run (o : Fin 32) (k : Pr F) :
    iprop((∃ Y, owns (c : Thread nD τ) (sobRow o) fullShare Y) ∗ owns (c : Thread nD τ) och fullShare (oc c)
        ∗ (iprop(owns (c : Thread nD τ) (sobRow o) fullShare (sentV (oc c)) ∗ owns (c : Thread nD τ) och fullShare (oc c)) -∗ wpT c Q k))
      ⊢ wpT c Q (stage1 o k) := by
  unfold stage1
  iintro ⟨⟨%Y, Hs⟩, Hc, Hk⟩
  iapply (ld c Q och _ fullShare (oc c) _)
  isplitl [Hc]; · iexact Hc
  iintro Hc
  iapply (ldS c Q sob (rows1 o) (fun _ => rfl) (rows1 o) (fun j => j) (fun _ => rfl) fullShare Y _)
  isplitl [Hs]; · iexact Hs
  iintro Hs
  iapply (stS c Q sob (rows1 o) (fun _ => rfl) (rows1 o) (fun j => j) (fun _ => rfl) Y _ k)
  isplitl [Hs]; · iexact Hs
  rw [upd_id]
  iintro Hs
  iapply Hk
  isplitl [Hs]; · iexact Hs
  iexact Hc

theorem keep1_run (k : Pr F) :
    iprop((∃ Y, owns (c : Thread nD τ) (gbufRow 0) fullShare Y) ∗ owns (c : Thread nD τ) och fullShare (oc c)
        ∗ (iprop(owns (c : Thread nD τ) (gbufRow 0) fullShare (sentV (oc c)) ∗ owns (c : Thread nD τ) och fullShare (oc c)) -∗ wpT c Q k))
      ⊢ wpT c Q (keep1 k) := by
  unfold keep1
  iintro ⟨⟨%Y, Hs⟩, Hc, Hk⟩
  iapply (ld c Q och _ fullShare (oc c) _)
  isplitl [Hc]; · iexact Hc
  iintro Hc
  iapply (ldS c Q gbuf (rows1 0) (fun _ => rfl) (rows1 0) (fun j => j) (fun _ => rfl) fullShare Y _)
  isplitl [Hs]; · iexact Hs
  iintro Hs
  iapply (stS c Q gbuf (rows1 0) (fun _ => rfl) (rows1 0) (fun j => j) (fun _ => rfl) Y _ k)
  isplitl [Hs]; · iexact Hs
  rw [upd_id]
  iintro Hs
  iapply Hk
  isplitl [Hs]; · iexact Hs
  iexact Hc

/-- One widening copy: the part it writes. -/
theorem place1_run (d : Fin 32) (b : Fin 2) (X : S1024x768.Idx → Elt F .f32) (k : Pr F) :
    iprop(owns (c : Thread nD τ) gbuf fullShare (tile (blk1 oc c)) ∗ owns (c : Thread nD τ) res fullShare X
        ∗ (iprop(owns (c : Thread nD τ) gbuf fullShare (tile (blk1 oc c))
            ∗ owns (c : Thread nD τ) res fullShare (upd (Rect.unit (s := S1024x768) ![512 * b.val + 16 * d.val, 0] S16x768.size (inbOut b d)).emb X (partV oc d b)))
          -∗ wpT c Q k))
      ⊢ wpT c Q (place1 c d b k) := by
  unfold place1
  iintro ⟨Hg, Hr, Hk⟩
  iapply (ld c Q gbuf _ fullShare (tile (blk1 oc c)) _)
  isplitl [Hg]; · iexact Hg
  iintro Hg
  iapply (ld c Q res _ fullShare X _)
  isplitl [Hr]; · iexact Hr
  iintro Hr
  iapply (st c Q res (Rect.unit (s := S1024x768) ![512 * b.val + 16 * d.val, 0] S16x768.size (inbOut b d)) X _ k)
  isplitl [Hr]; · iexact Hr
  rw [show (k1_pay39 fun j : (Rect.unit (s := S1024x768) (k1_off1 c (BitVec.ofNat 32 d.val) (BitVec.ofNat 32 (16 * b.val))) S16x768.size
      (k1_off1_inb c d b)).toLoadRect.shape.Idx => tile (blk1 oc c) ((Rect.unit (s := S1024x768) (k1_off1 c (BitVec.ofNat 32 d.val) (BitVec.ofNat 32 (16 * b.val))) S16x768.size
      (k1_off1_inb c d b)).emb j)) = partV oc d b from by
    unfold partV
    refine congrArg k1_pay39 (funext fun j => ?_)
    rw [tile_at (blk1 oc c) _ (c - d : Fin 32) (inHalf b j)]
    · show sentV (oc (c - (c - d) : Fin 32)) _ = _
      rw [sub_sub_cancel]
    · show k1_off1 c (BitVec.ofNat 32 d.val) (BitVec.ofNat 32 (16 * b.val)) 0 + 1 * (j 0).val = 32 * (c - d : Fin 32).val + (16 * b.val + (j 0).val)
      rw [off1_row]; omega
    · show k1_off1 c (BitVec.ofNat 32 d.val) (BitVec.ofNat 32 (16 * b.val)) 1 + 1 * (j 1).val = (j 1).val
      rw [off1_col]; omega]
  iintro Hr
  iapply Hk
  isplitl [Hg]; · iexact Hg
  iexact Hr

/-- The rows of part `b` of device `d` in the result. -/
abbrev partR (d : Fin 32) (b : Fin 2) : Rect S1024x768 := Rect.unit (s := S1024x768) ![512 * b.val + 16 * d.val, 0] S16x768.size (inbOut b d)

theorem partR_miss {d d' : Fin 32} {b b' : Fin 2} (h : ¬ (d = d' ∧ b = b')) (j : S16x768.Idx) (j' : S16x768.Idx) :
    (partR d' b').emb j' ≠ (partR d b).emb j := fun e => h (by
  have e0 : 512 * b'.val + 16 * d'.val + 1 * (j' 0).val = 512 * b.val + 16 * d.val + 1 * (j 0).val := congrArg (fun y : S1024x768.Idx => (y 0).val) e
  have h0 := lt0 j
  have h1 := lt0 j'
  exact ⟨Fin.ext (by omega), Fin.ext (by omega)⟩)

/-- The parts of the first `n` devices are in place. -/
def Placed (n : ℕ) (X : S1024x768.Idx → Elt F .f32) : Prop :=
  ∀ (d : Fin 32) (b : Fin 2) (j : S16x768.Idx), d.val < n → X ((partR d b).emb j) = partV oc d b j

theorem placed_step (d : Fin 32) (X : S1024x768.Idx → Elt F .f32) (h : Placed oc d.val X) :
    Placed oc (d.val + 1) (upd (partR d 1).emb (upd (partR d 0).emb X (partV oc d 0)) (partV oc d 1)) := by
  intro d' b' j hd
  by_cases hdd : d' = d
  · subst hdd
    obtain rfl | rfl : b' = 0 ∨ b' = 1 := by omega
    · exact (upd_miss _ _ fun j' => partR_miss (d := d') (d' := d') (b := 0) (b' := 1) (fun e => absurd e.2 (by decide)) j j').trans
        (upd_hit (partR d' 0).emb.injective _ _ j)
    · exact upd_hit (partR d' 1).emb.injective _ _ j
  · have hv : d'.val ≠ d.val := fun e => hdd (Fin.ext e)
    exact ((upd_miss _ _ fun j' => partR_miss (d := d') (d' := d) (b := b') (b' := 1) (fun e => hdd e.1) j j').trans
      (upd_miss _ _ fun j' => partR_miss (d := d') (d' := d) (b := b') (b' := 0) (fun e => hdd e.1) j j')).trans (h d' b' j (by omega))

theorem placed_all (X : S1024x768.Idx → Elt F .f32) (h : Placed oc 32 X) : X = gathered oc := by
  funext y
  have h0 := lt0 y
  unfold gathered
  rw [← h _ _ _ (Fin.isLt _)]
  refine congrArg X (ext2 ?_ ?_)
  · show (y 0).val = 512 * ((y 0).val / 512) + 16 * ((y 0).val % 512 / 16) + 1 * ((y 0).val % 16)
    omega
  · show (y 1).val = 0 + 1 * (y 1).val
    omega

theorem family_emp (n : ℕ) : (iprop(emp) : sProp 𝕄) ⊢ bigSep Finset.univ fun _ : Fin n => iprop(emp) :=
  Entails.of_eq (bigSep_emp_const _).symm

theorem places_run (k : Pr F) :
    iprop(owns (c : Thread nD τ) gbuf fullShare (tile (blk1 oc c)) ∗ (∃ X, owns (c : Thread nD τ) res fullShare X)
        ∗ (iprop(owns (c : Thread nD τ) gbuf fullShare (tile (blk1 oc c)) ∗ owns (c : Thread nD τ) res fullShare (gathered oc)) -∗ wpT c Q k))
      ⊢ wpT c Q (each 32 (fun d K => place1 c d 0 (place1 c d 1 K)) k) := by
  have h := each_inv (wpT c Q) iprop(emp) 32 (fun d K => place1 c d 0 (place1 c d 1 K)) (fun _ => iprop(emp)) (fun _ => iprop(emp))
    (fun n => iprop(owns (c : Thread nD τ) gbuf fullShare (tile (blk1 oc c)) ∗ ∃ X, ⌜Placed oc n X⌝ ∗ owns (c : Thread nD τ) res fullShare X))
    (fun d k => by
      iintro ⟨-, -, ⟨Hg, %X, %hX, Hr⟩, Hk⟩
      iapply (place1_run oc c Q d 0 X (place1 c d 1 k))
      isplitl [Hg]; · iexact Hg
      isplitl [Hr]; · iexact Hr
      iintro ⟨Hg, Hr⟩
      iapply (place1_run oc c Q d 1 _ k)
      isplitl [Hg]; · iexact Hg
      isplitl [Hr]; · iexact Hr
      iintro ⟨Hg, Hr⟩
      iapply Hk
      isplitr; · iempintro
      isplitl [Hg]; · iexact Hg
      iexists _
      isplitr; · ipureintro; exact placed_step oc d X hX
      iexact Hr) k
  iintro ⟨Hg, ⟨%X, Hr⟩, Hk⟩
  iapply h
  isplitr; · iempintro
  isplitr; · iapply (family_emp 32); iempintro
  isplitl [Hg Hr]
  · isplitl [Hg]; · iexact Hg
    iexists X
    isplitr; · ipureintro; exact fun d _ _ hd => absurd hd (Nat.not_lt_zero _)
    iexact Hr
  iintro ⟨-, Hg, %X, %hX, Hr⟩
  iapply Hk
  isplitl [Hg]; · iexact Hg
  rw [placed_all oc X hX]
  iexact Hr

local notation "𝕊" => slots blk0 (blk1 oc)

theorem send1_run (o : Fin 31) (O : CT) (W : Waits sig Unit) (k : Pr F) :
    iprop(records 𝕊 κ ∗ iprop(owns (c : Thread nD τ) (sobRow o.succ) fullShare (sentV (oc c)) ∗ sendArg 𝕊 1 c o.succ)
        ∗ owes (c : Thread nD τ) (O + tallyAt (cell 1 (c + o.succ : Fin 32) (.rcv o.succ)) () (N 1 o.succ)) W
        ∗ (iprop(cred (tallyAt (cell 1 c (.snd o.succ)) () (N 1 o.succ)) ∗ owes (c : Thread nD τ) O W) -∗ wpT c Q k))
      ⊢ wpT c Q (send1 c o.succ k) :=
  send_run 𝕊 κ 1 c Q (src := sobRow o.succ) (dst := gbufRow o.succ) o.succ (Fin.succ_ne_zero o) (peer o.succ c) (peer_eq o.succ c) (sentV (oc c))
    rfl
    (show freeS F 1 (peer o.succ c) o.succ ⊢ iprop(∃ Y, owns (peer o.succ c : Thread nD τ) (gbufRow o.succ) fullShare Y) from .rfl)
    (show owns (c : Thread nD τ) (sobRow o.succ) fullShare (sentV (oc c)) ⊢ iprop(∃ Y, owns (c : Thread nD τ) (sobRow o.succ) fullShare Y) by
      iintro H; iexists _; iexact H)
    (show owns (peer o.succ c : Thread nD τ) (gbufRow o.succ) fullShare (sentV (oc c))
        ⊢ owns (peer o.succ c : Thread nD τ) (gbufRow o.succ) fullShare (sentV (oc (peer o.succ c - o.succ : Fin 32))) from
      Entails.of_eq (by rw [show (peer o.succ c - o.succ : Fin 32) = c from by rw [peer_eq]; exact add_sub_cancel_right _ _]))
    O W k

/-- What the second call's body starts from. -/
def pre1 : sProp 𝕄 :=
  iprop(iprop(atPos ER (cell 1 c .bar) 0 ∅ 0 ∗ fresh 1 c ∗ toks 1 c ∗ creds 1 c) ∗ owns (c : Thread nD τ) och fullShare (oc c)
    ∗ (∃ X, owns (c : Thread nD τ) res fullShare X) ∗ (∃ X, owns (c : Thread nD τ) sob fullShare X)
    ∗ (∃ X, owns (c : Thread nD τ) gbuf fullShare X) ∗ ∃ W, owes (c : Thread nD τ) (later 1 c + dues 1 c) W)
/-- What it ends with. -/
def post1 : sProp 𝕄 :=
  iprop(iprop(semVal (cell 1 c .bar) 0 ∗ Pipeline.ownSems0 (osem 1) c) ∗ owns (c : Thread nD τ) och fullShare (oc c)
    ∗ owns (c : Thread nD τ) res fullShare (gathered oc) ∗ (∃ X, owns (c : Thread nD τ) sob fullShare X)
    ∗ (∃ X, owns (c : Thread nD τ) gbuf fullShare X) ∗ ∃ W, owes (c : Thread nD τ) (later 1 c) W)

/-- The own chunk and the landed ones, as the landing buffer's contents. -/
theorem join1 [∀ e, Nonempty (Elt F e)] :
    iprop(owns (c : Thread nD τ) (gbufRow 0) fullShare (sentV (oc c))
      ∗ bigSep Finset.univ fun o : Fin 31 => owns (c : Thread nD τ) (gbufRow o.succ) fullShare (blk1 oc c o.succ))
      ⊢ (owns (c : Thread nD τ) gbuf fullShare (tile (blk1 oc c)) : sProp 𝕄) := by
  have e : sentV (oc c) = blk1 oc c 0 := by
    show _ = sentV (oc (c - 0 : Fin 32))
    rw [sub_zero]
  rw [e]
  exact (Entails.of_eq (family_succ (n := 31) fun o : Fin 32 => (owns (c : Thread nD τ) (gbufRow o) fullShare (blk1 oc c o) : sProp 𝕄)).symm).trans
    (blocks_join (F := F) c fullShare gbuf inbRow (blk1 oc c))

set_option maxHeartbeats 1000000 in
/-- The second call's body, run. -/
theorem run1 [∀ e, Nonempty (Elt F e)] :
    iprop(iprop(records 𝕊 κ ∗ levAts L lv) ∗ pre1 oc c ∗ (post1 oc c -∗ Q ⟨⟩)) ⊢ wpT c Q body1 := by
  unfold pre1 body1
  iintro ⟨⟨#HR, #Hlev⟩, ⟨Htalk, Hoch, Hres, Hsob, Hg, HO⟩, Hk⟩
  iapply (device_run c Q _)
  iapply (show _ ⊢ wpT c Q (each 32 signal1 (.op (.semWait bar1.sem (32#32).toInt) fun _ => _)) from talk_open 𝕊 κ 1 c Q _)
  isplitr
  · isplitr; · iexact HR
    iexact Hlev
  isplitl [Htalk]; · iexact Htalk
  isplitl [Hg]; · iapply (show iprop(∃ X, owns (c : Thread nD τ) gbuf fullShare X) ⊢ (bigSep Finset.univ fun o : Fin 32 => freeS F 1 c o : sProp 𝕄) from
      blocks_split (F := F) c fullShare gbuf inbRow) $$ Hg
  isplitl [HO]; · iexact HO
  iintro ⟨Hmid, HO⟩
  unfold mid
  icases Hmid with ⟨Hzero, Hsnd, Hargs, Hrcv, Hfree⟩
  iapply (keep1_run oc c Q _)
  isplitl [Hfree]
  · iapply (show (𝕊).free 1 c 0 ⊢ iprop(∃ Y, owns (c : Thread nD τ) (gbufRow 0) fullShare Y) from .rfl) $$ Hfree
  isplitl [Hoch]; · iexact Hoch
  iintro ⟨Hg0, Hoch⟩
  ihave Hsob := (show iprop(∃ X, owns (c : Thread nD τ) sob fullShare X) ⊢ (iprop((∃ X, owns (c : Thread nD τ) (sobRow 0) fullShare X)
      ∗ bigSep Finset.univ fun o : Fin 31 => iprop(∃ X, owns (c : Thread nD τ) (sobRow o.succ) fullShare X)) : sProp 𝕄) from
    (blocks_split (F := F) c fullShare sob inbRow).trans (Entails.of_eq (family_succ _))) $$ Hsob
  icases Hsob with ⟨Hsob0, Hsob⟩
  iapply (each_inv (wpT c Q) iprop(emp) 31 (fun o => stage1 o.succ) (fun o => iprop(∃ Y, owns (c : Thread nD τ) (sobRow o.succ) fullShare Y))
    (fun o => owns (c : Thread nD τ) (sobRow o.succ) fullShare (sentV (oc c))) (fun _ => owns (c : Thread nD τ) och fullShare (oc c))
    (fun o k => by
      iintro ⟨-, HA, HR, Hk⟩
      iapply (stage1_run oc c Q o.succ k)
      isplitl [HA]; · iexact HA
      isplitl [HR]; · iexact HR
      iexact Hk))
  isplitr; · iempintro
  isplitl [Hsob]; · iexact Hsob
  isplitl [Hoch]; · iexact Hoch
  iintro ⟨Hsob, Hoch⟩
  icases HO with ⟨%W, HO⟩
  iapply (each_pay (wpT c Q) (records 𝕊 κ) (fun O => owes (c : Thread nD τ) O W) (later 1 c) 31 (fun o => send1 c o.succ)
    (fun o => iprop(owns (c : Thread nD τ) (sobRow o.succ) fullShare (sentV (oc c)) ∗ sendArg 𝕊 1 c o.succ))
    (fun o => cred (tallyAt (cell 1 c (.snd o.succ)) () (N 1 o.succ)))
    (fun o => tallyAt (cell 1 (c + o.succ : Fin 32) (.rcv o.succ)) () (N 1 o.succ))
    (fun o k O => send1_run blk0 oc κ c Q o O W k))
  isplitr; · iexact HR
  isplitl [Hsob Hargs]
  · iapply pairUp
    isplitl [Hsob]; · iexact Hsob
    iexact Hargs
  isplitl [HO]; · iexact HO
  iintro ⟨Hcs, HO⟩
  iapply (each_inv (wpT c Q) iprop(records 𝕊 κ ∗ levAts L lv) 31 (fun o => arrive1 o.succ)
    (fun o => iprop(cred (tallyAt (cell 1 c (.rcv o.succ)) () (N 1 o.succ)) ∗ atPos ER (cell 1 c (.rcv o.succ)) 0 ∅ 0))
    (fun o => iprop(atPos ER (cell 1 c (.rcv o.succ)) 1 ∅ 0 ∗ owns (c : Thread nD τ) (gbufRow o.succ) fullShare (blk1 oc c o.succ)))
    (fun _ => iprop(∃ W, owes (c : Thread nD τ) (later 1 c) W))
    (fun o k => arrive_run 𝕊 κ 1 c Q (src := sobRow o.succ) (dst := gbufRow o.succ) o.succ (Fin.succ_ne_zero o) rfl _ _ k))
  isplitr
  · isplitr; · iexact HR
    iexact Hlev
  isplitl [Hrcv]; · iexact Hrcv
  isplitl [HO]; · iexists W; iexact HO
  iintro ⟨Hrcv, HO⟩
  ihave Hrcv := pairDown $$ Hrcv
  icases Hrcv with ⟨Hrcv, Hg⟩
  ihave Hg := (join1 (F := F) oc c) $$ [Hg0 Hg]
  · isplitl [Hg0]; · iexact Hg0
    iexact Hg
  iapply (places_run oc c Q _)
  isplitl [Hg]; · iexact Hg
  isplitl [Hres]; · iexact Hres
  iintro ⟨Hg, Hres⟩
  iapply (each_inv (wpT c Q) iprop(records 𝕊 κ ∗ levAts L lv) 31 (fun o => sent1 o.succ)
    (fun o => iprop(cred (tallyAt (cell 1 c (.snd o.succ)) () (N 1 o.succ)) ∗ atPos ER (cell 1 c (.snd o.succ)) 0 ∅ 0))
    (fun o => iprop(atPos ER (cell 1 c (.snd o.succ)) 1 ∅ 0 ∗ ∃ Y, owns (c : Thread nD τ) (sobRow o.succ) fullShare Y))
    (fun _ => iprop(∃ W, owes (c : Thread nD τ) (later 1 c) W))
    (fun o k => sent_run 𝕊 κ 1 c Q (src := gbufRow o.succ) (dst := sobRow o.succ) o.succ (Fin.succ_ne_zero o) rfl _ _ k))
  isplitr
  · isplitr; · iexact HR
    iexact Hlev
  isplitl [Hcs Hsnd]
  · iapply pairUp
    isplitl [Hcs]; · iexact Hcs
    iexact Hsnd
  isplitl [HO]; · iexact HO
  iintro ⟨Hsnd, HO⟩
  ihave Hsnd := pairDown $$ Hsnd
  icases Hsnd with ⟨Hsnd, Hsob⟩
  iapply (end_run c Q ⟨⟩)
  imod (talk_close 𝕊 κ 1 c) $$ [Hzero Hsnd Hrcv] with Hsem
  · isplitr; · iexact HR
    isplitl [Hzero]; · iexact Hzero
    isplitl [Hsnd]; · iexact Hsnd
    iexact Hrcv
  imodintro
  iapply Hk
  unfold post1
  isplitl [Hsem]; · iexact Hsem
  isplitl [Hoch]; · iexact Hoch
  isplitl [Hres]; · iexact Hres
  isplitl [Hsob Hsob0]
  · iapply (show iprop((∃ X, owns (c : Thread nD τ) (sobRow 0) fullShare X)
      ∗ bigSep Finset.univ fun o : Fin 31 => iprop(∃ X, owns (c : Thread nD τ) (sobRow o.succ) fullShare X))
      ⊢ (iprop(∃ X, owns (c : Thread nD τ) sob fullShare X) : sProp 𝕄) from
      BI.Entails.trans (Entails.of_eq (family_succ (n := 31) fun o : Fin 32 => (iprop(∃ X, owns (c : Thread nD τ) (sobRow o) fullShare X) : sProp 𝕄)).symm)
        (blocks_join_any (F := F) c fullShare sob inbRow))
    isplitl [Hsob0]; · iexact Hsob0
    iexact Hsob
  isplitl [Hg]; · iexists _; iexact Hg
  iexact HO

end Cert.KernelIdeal.Own

end
-- ==== Proof.Run0.lean ====
/- The first call's body run, up to the rows it sends: per batch, the heads' products and the row sums in the combined buffer. -/
module

public import proofs.«01_k».proof.Proof.Run1

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (F) in
/-- What a device's input windows hold. -/
structure Ins where
  x : S1024x768.Idx → Elt F .f32
  wq : S768x512.Idx → Elt F .f32
  k : S1024x512.Idx → Elt F .f32
  v : S1024x512.Idx → Elt F .f32
  wo : S512x768.Idx → Elt F .f32

/-! ## The values -/

abbrev ctxR (b : Fin 2) (h : Fin 8) : Rect S1024x640 := Rect.unit (s := S1024x640) ![512 * b.val, 64 * h.val] S512x64.size (inbCtx b h)
abbrev tailR (b : Fin 2) : Rect S1024x640 := Rect.unit (s := S1024x640) ![512 * b.val, 512] S512x128.size (inbTail b)
abbrev sumsR (b : Fin 2) : Rect S1024x640 := Rect.unit (s := S1024x640) ![512 * b.val, 512] S512x8.size (inbSums b)

def xV (I : Ins F) (b : Fin 2) : Vec F S512x768 .f32 := fun j => I.x ((Rect.unit (s := S1024x768) ![512 * b.val, 0] S512x768.size (inbX b)).emb j)
def wqV (I : Ins F) : Vec F S768x512 .f32 := fun j => I.wq ((Rect.unit (s := S768x512) ![0, 0] S768x512.size inb_S768x512_S768x512_0_0).emb j)
def woV (I : Ins F) : Vec F S512x768 .f32 := fun j => I.wo ((Rect.unit (s := S512x768) ![0, 0] S512x768.size inb_S512x768_S512x768_0_0).emb j)
def kvV (k : S1024x512.Idx → Elt F .f32) (b : Fin 2) (h : Fin 8) : Vec F S512x64 .f32 :=
  fun j => k ((Rect.unit (s := S1024x512) ![512 * b.val, 64 * h.val] S512x64.size (inbKV b h)).emb j)

/-- Head `h`'s weights of batch `b`, their products with the values, their row sums. -/
def headW (d0 : Dev nD) (I : Ins F) (b : Fin 2) (h : Fin 8) : FVec F S512x512 .f32 := wgtV d0 h (xV I b) (wqV I) (kvV I.k b h)
def headC (d0 : Dev nD) (I : Ins F) (b : Fin 2) (h : Fin 8) : FVec F S512x64 .f32 := ctxV (headW d0 I b h) (kvV I.v b h)
def headS (d0 : Dev nD) (I : Ins F) (b : Fin 2) (h : Fin 8) : FVec F S512x1 .f32 := sumV (headW d0 I b h)

/-- The combined buffer: in batch `b`'s rows the eight products side by side, then the eight row sums, then the filling. -/
def combV (d0 : Dev nD) (I : Ins F) : S1024x640.Idx → Elt F .f32 := fun y =>
  if h : (y 1).val < 512 then
    headC d0 I ⟨(y 0).val / 512, by have := lt0 y; omega⟩ ⟨(y 1).val / 64, by omega⟩
      (ix2 ⟨(y 0).val % 512, Nat.mod_lt _ (by decide)⟩ ⟨(y 1).val % 64, Nat.mod_lt _ (by decide)⟩)
  else if h' : (y 1).val < 520 then
    sumsV (headS d0 I ⟨(y 0).val / 512, by have := lt0 y; omega⟩)
      (ix2 ⟨(y 0).val % 512, Nat.mod_lt _ (by decide)⟩ ⟨(y 1).val - 512, by omega⟩)
  else k0_pay38 (F := F) (ix2 ⟨(y 0).val % 512, Nat.mod_lt _ (by decide)⟩ ⟨(y 1).val - 512, by have := lt1 y; omega⟩)

/-- The first `n` heads of batch `b` are in place in `X`, whose rows of the other batch are those of `X₀`. -/
def Heads (d0 : Dev nD) (I : Ins F) (b : Fin 2) (X₀ : S1024x640.Idx → Elt F .f32) (n : ℕ) (X : S1024x640.Idx → Elt F .f32) : Prop :=
  (∀ (h : Fin 8) (j : S512x64.Idx), h.val < n → X ((ctxR b h).emb j) = headC d0 I b h j)
    ∧ ∀ y : S1024x640.Idx, (y 0).val / 512 ≠ b.val → X y = X₀ y

theorem ctxR_miss {b : Fin 2} {h : Fin 8} {y : S1024x640.Idx} (hy : (y 0).val / 512 = b.val → (y 1).val / 64 ≠ h.val) (j : S512x64.Idx) :
    (ctxR b h).emb j ≠ y := by
  rintro rfl
  have h0 := lt0 j
  have h1 := lt1 j
  refine hy ?_ ?_
  · show (512 * b.val + 1 * (j 0).val) / 512 = b.val; omega
  · show (64 * h.val + 1 * (j 1).val) / 64 = h.val; omega
theorem tailR_miss {b : Fin 2} {y : S1024x640.Idx} (hy : (y 0).val / 512 = b.val → (y 1).val < 512) (j : S512x128.Idx) :
    (tailR b).emb j ≠ y := by
  rintro rfl
  have h0 := lt0 j
  have h1 := lt1 j
  have := hy (by show (512 * b.val + 1 * (j 0).val) / 512 = b.val; omega)
  have : 512 + 1 * (j 1).val < 512 := this
  omega
theorem sumsR_miss {b : Fin 2} {y : S1024x640.Idx} (hy : (y 0).val / 512 = b.val → (y 1).val < 512 ∨ 520 ≤ (y 1).val) (j : S512x8.Idx) :
    (sumsR b).emb j ≠ y := by
  rintro rfl
  have h0 := lt0 j
  have h1 := lt1 j
  have := hy (by show (512 * b.val + 1 * (j 0).val) / 512 = b.val; omega)
  have : 512 + 1 * (j 1).val < 512 ∨ 520 ≤ 512 + 1 * (j 1).val := this
  omega

theorem heads_step (d0 : Dev nD) (I : Ins F) (b : Fin 2) (X₀ X : S1024x640.Idx → Elt F .f32) (h : Fin 8) (hX : Heads d0 I b X₀ h.val X) :
    Heads d0 I b X₀ (h.val + 1) (upd (ctxR b h).emb X (headC d0 I b h)) := by
  refine ⟨fun h' j hlt => ?_, fun y hy => ?_⟩
  · by_cases e : h' = h
    · subst e; exact upd_hit (ctxR b h').emb.injective _ _ j
    · have hv : h'.val ≠ h.val := fun e' => e (Fin.ext e')
      refine (upd_miss _ _ fun j' => ctxR_miss (b := b) (h := h) (fun _ => ?_) j').trans (hX.1 h' j (by omega))
      have h1 := lt1 j
      show (64 * h'.val + 1 * (j 1).val) / 64 ≠ h.val
      omega
  · exact (upd_miss _ _ fun j' => ctxR_miss (b := b) (h := h) (fun e => absurd e hy) j').trans (hX.2 y hy)

/-- Batch `b`'s rows are in place, the other rows are those of `X₀`. -/
def Rows (d0 : Dev nD) (I : Ins F) (b : Fin 2) (X₀ X : S1024x640.Idx → Elt F .f32) : Prop :=
  ∀ y : S1024x640.Idx, X y = if (y 0).val / 512 = b.val then combV d0 I y else X₀ y

theorem rows_of_heads (d0 : Dev nD) (I : Ins F) (b : Fin 2) (X₀ X : S1024x640.Idx → Elt F .f32) (hX : Heads d0 I b X₀ 8 X) :
    Rows d0 I b X₀ (upd (sumsR b).emb (upd (tailR b).emb X (k0_pay38 (F := F))) (sumsV (headS d0 I b))) := by
  intro y
  have h0 := lt0 y
  have h1 := lt1 y
  by_cases hb : (y 0).val / 512 = b.val
  · rw [if_pos hb]
    have eb : (⟨(y 0).val / 512, by omega⟩ : Fin 2) = b := Fin.ext hb
    unfold combV
    rw [eb]
    by_cases hc : (y 1).val < 512
    · rw [dif_pos hc]
      refine ((upd_miss _ _ fun j' => sumsR_miss (fun _ => Or.inl hc) j').trans (upd_miss _ _ fun j' => tailR_miss (fun _ => hc) j')).trans ?_
      rw [← hX.1 _ _ (Fin.isLt _)]
      refine congrArg X (ext2 ?_ ?_)
      · show (y 0).val = 512 * b.val + 1 * ((y 0).val % 512); omega
      · show (y 1).val = 64 * ((y 1).val / 64) + 1 * ((y 1).val % 64); omega
    · rw [dif_neg hc]
      by_cases hs : (y 1).val < 520
      · rw [dif_pos hs]
        rw [← upd_hit (sumsR b).emb.injective (upd (tailR b).emb X (k0_pay38 (F := F))) (sumsV (headS d0 I b))]
        refine congrArg _ (ext2 ?_ ?_)
        · show (y 0).val = 512 * b.val + 1 * ((y 0).val % 512); omega
        · show (y 1).val = 512 + 1 * ((y 1).val - 512); omega
      · rw [dif_neg hs]
        refine (upd_miss _ _ fun j' => sumsR_miss (fun _ => Or.inr (by omega)) j').trans ?_
        rw [← upd_hit (tailR b).emb.injective X (k0_pay38 (F := F))]
        refine congrArg _ (ext2 ?_ ?_)
        · show (y 0).val = 512 * b.val + 1 * ((y 0).val % 512); omega
        · show (y 1).val = 512 + 1 * ((y 1).val - 512); omega
  · rw [if_neg hb]
    exact ((upd_miss _ _ fun j' => sumsR_miss (fun e => absurd e hb) j').trans
      (upd_miss _ _ fun j' => tailR_miss (fun e => absurd e hb) j')).trans (hX.2 y hb)

theorem rows_both (d0 : Dev nD) (I : Ins F) (X₀ X X' : S1024x640.Idx → Elt F .f32) (h : Rows d0 I 0 X₀ X) (h' : Rows d0 I 1 X X') :
    X' = combV d0 I := by
  funext y
  have h0 := lt0 y
  rw [h' y]
  by_cases hb : (y 0).val / 512 = (1 : Fin 2).val
  · rw [if_pos hb]
  · rw [if_neg hb, h y, if_pos]
    have : ¬ (y 0).val / 512 = 1 := hb
    show (y 0).val / 512 = 0
    omega

/-! ## The steps -/

variable (κ : GSem nD τ sig → ℕ) (c : Dev nD) (Q : PUnit → sProp (MT nD τ sig Unit (Elt F) ℕ UU ℕ)) (I : Ins F)

theorem head0_run (b : Fin 2) (X₀ : S1024x640.Idx → Elt F .f32) (h : Fin 8) (k : FVec F S512x1 .f32 → Pr F) :
    iprop(iprop(owns (c : Thread nD τ) kB fullShare I.k ∗ owns (c : Thread nD τ) vB fullShare I.v
          ∗ ∃ X, ⌜Heads c I b X₀ h.val X⌝ ∗ owns (c : Thread nD τ) comb fullShare X)
        ∗ (iprop(owns (c : Thread nD τ) kB fullShare I.k ∗ owns (c : Thread nD τ) vB fullShare I.v
          ∗ ∃ X, ⌜Heads c I b X₀ (h.val + 1) X⌝ ∗ owns (c : Thread nD τ) comb fullShare X) -∗ wpT c Q (k (headS c I b h))))
      ⊢ wpT c Q (head0 c b (xV I b) (wqV I) h k) := by
  unfold head0
  iintro ⟨⟨Hk, Hv, %X, %hX, Hc⟩, K⟩
  iapply (ld c Q kB _ fullShare I.k _)
  isplitl [Hk]; · iexact Hk
  iintro Hk
  iapply (ld c Q vB _ fullShare I.v _)
  isplitl [Hv]; · iexact Hv
  iintro Hv
  iapply (ld c Q comb _ fullShare X _)
  isplitl [Hc]; · iexact Hc
  iintro Hc
  iapply (st c Q comb (ctxR b h) X (headC c I b h) (k (headS c I b h)))
  isplitl [Hc]; · iexact Hc
  iintro Hc
  iapply K
  isplitl [Hk]; · iexact Hk
  isplitl [Hv]; · iexact Hv
  iexists _
  isplitr; · ipureintro; exact heads_step c I b X₀ X h hX
  iexact Hc

/-- The input windows of the products. -/
def insOwn : sProp 𝕄 :=
  iprop(owns (c : Thread nD τ) xB fullShare I.x ∗ owns (c : Thread nD τ) wqB fullShare I.wq
    ∗ owns (c : Thread nD τ) kB fullShare I.k ∗ owns (c : Thread nD τ) vB fullShare I.v)

theorem batch0_run (b : Fin 2) (X₀ : S1024x640.Idx → Elt F .f32) (k : Pr F) :
    iprop(insOwn c I ∗ owns (c : Thread nD τ) comb fullShare X₀
        ∗ (iprop(insOwn c I ∗ ∃ X, ⌜Rows c I b X₀ X⌝ ∗ owns (c : Thread nD τ) comb fullShare X) -∗ wpT c Q k))
      ⊢ wpT c Q (batch0 c b k) := by
  unfold batch0 insOwn
  iintro ⟨⟨Hx, Hw, Hk, Hv⟩, Hc, K⟩
  iapply (ld c Q xB _ fullShare I.x _)
  isplitl [Hx]; · iexact Hx
  iintro Hx
  iapply (ld c Q wqB _ fullShare I.wq _)
  isplitl [Hw]; · iexact Hw
  iintro Hw
  iapply (show _ ⊢ wpT c Q (eachGet 8 (head0 c b (xV I b) (wqV I)) _) from eachGet_inv (wpT c Q) 8 (head0 c b (xV I b) (wqV I))
    (fun n => iprop(owns (c : Thread nD τ) kB fullShare I.k ∗ owns (c : Thread nD τ) vB fullShare I.v
          ∗ ∃ X, ⌜Heads c I b X₀ n X⌝ ∗ owns (c : Thread nD τ) comb fullShare X)) (headS c I b) (head0_run c Q I b X₀) _)
  isplitl [Hk Hv Hc]
  · isplitl [Hk]; · iexact Hk
    isplitl [Hv]; · iexact Hv
    iexists X₀
    isplitr; · ipureintro; exact ⟨fun _ _ h => absurd h (Nat.not_lt_zero _), fun _ _ => rfl⟩
    iexact Hc
  iintro ⟨Hk, Hv, %X, %hX, Hc⟩
  iapply (ld c Q comb _ fullShare X _)
  isplitl [Hc]; · iexact Hc
  iintro Hc
  iapply (st c Q comb (tailR b) X (k0_pay38 (F := F)) _)
  isplitl [Hc]; · iexact Hc
  iintro Hc
  iapply (ld c Q comb _ fullShare _ _)
  isplitl [Hc]; · iexact Hc
  iintro Hc
  iapply (st c Q comb (sumsR b) _ (sumsV (headS c I b)) k)
  isplitl [Hc]; · iexact Hc
  iintro Hc
  iapply K
  isplitl [Hx Hw Hk Hv]
  · isplitl [Hx]; · iexact Hx
    isplitl [Hw]; · iexact Hw
    isplitl [Hk]; · iexact Hk
    iexact Hv
  iexists _
  isplitr; · ipureintro; exact rows_of_heads c I b X₀ X hX
  iexact Hc

end Cert.KernelIdeal.Own

end
-- ==== Proof.Fold0.lean ====
/- The first call's body run: the rows sent, the landed blocks summed, the chunk stored. -/
module

public import proofs.«01_k».proof.Proof.Run0

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The values -/

/-- Of combined contents, batch `b`'s rows of device `t`: row `512 b + 16 t + i`. -/
def rowsOf (cm : S1024x640.Idx → Elt F .f32) (t : Fin 32) (b : Fin 2) : S16x640.Idx → Elt F .f32 := fun j =>
  cm (ix2 ⟨512 * b.val + 16 * t.val + (j 0).val, by have := lt0 j; omega⟩ ⟨(j 1).val, lt1 j⟩)

/-- What is sent to device `t`: its rows of both batches, rounded. -/
def sendV (cm : S1024x640.Idx → Elt F .f32) (t : Fin 32) : S32x640.Idx → Elt F .bf16 := fun y =>
  k0_pay69 (rowsOf cm t ⟨(y 0).val / 16, by have := lt0 y; omega⟩) (ix2 ⟨(y 0).val % 16, Nat.mod_lt _ (by decide)⟩ ⟨(y 1).val, lt1 y⟩)

/-- A chunk from its two halves. -/
def outV (red : FVec F S32x640 .f32) (wo : Vec F S512x768 .f32) : S32x768.Idx → Elt F .bf16 := fun y =>
  chunkV red ⟨(y 0).val / 16, by have := lt0 y; omega⟩ wo (ix2 ⟨(y 0).val % 16, Nat.mod_lt _ (by decide)⟩ ⟨(y 1).val, lt1 y⟩)

variable (Is : Dev nD → Ins F)

/-- What lands in slot `o` of device `c`: its rows of the device `o` places back. -/
abbrev blk0 : Dev nD → Fin 32 → S32x640.Idx → Elt F .bf16 := fun c o => sendV (combV (c - o : Fin 32) (Is (c - o : Fin 32))) c

/-- Device `c`'s rows, summed over the devices. -/
def redC (c : Dev nD) : FVec F S32x640 .f32 :=
  redV (rowsOf (combV c (Is c)) c 0) (rowsOf (combV c (Is c)) c 1) fun o => blk0 Is c o.succ

/-- Device `c`'s chunk. -/
def chunkC (c : Dev nD) : S32x768.Idx → Elt F .bf16 := outV (redC Is c) (woV (Is c))

theorem peer_row : ∀ (d0 : Dev nD) (b : Fin 2) (o : Fin 31),
    k0_off1 d0 (BitVec.ofNat 32 (512 * b.val)) (BitVec.ofNat 32 o.succ.val) 0 = 512 * b.val + 16 * (d0 + o.succ : Fin 32).val := by
  decide +kernel
theorem peer_col : ∀ (d0 : Dev nD) (b : Fin 2) (o : Fin 31),
    k0_off1 d0 (BitVec.ofNat 32 (512 * b.val)) (BitVec.ofNat 32 o.succ.val) 1 = 0 := by
  decide +kernel
theorem own_row : ∀ (d0 : Dev nD) (b : Fin 2), k0_off2 d0 (BitVec.ofNat 32 (512 * b.val)) 0 = 512 * b.val + 16 * d0.val := by decide +kernel
theorem own_col : ∀ (d0 : Dev nD) (b : Fin 2), k0_off2 d0 (BitVec.ofNat 32 (512 * b.val)) 1 = 0 := by decide +kernel

theorem inHalf_inj {W : ℕ} (b : Fin 2) : Function.Injective (inHalf (W := W) b) := fun x y h => by
  have h0 : 16 * b.val + (x 0).val = 16 * b.val + (y 0).val := congrArg (fun z => (z 0).val) h
  have h1 : (x 1).val = (y 1).val := congrArg (fun z => (z 1).val) h
  exact ext2 (by omega) h1

/-- A block of 32 rows written by its two halves. -/
theorem halves {W : ℕ} {A : Type _} (Y : (⟨2, ![32, W]⟩ : Shape).Idx → A) (w : Fin 2 → (⟨2, ![16, W]⟩ : Shape).Idx → A) :
    upd (inHalf 1) (upd (inHalf 0) Y (w 0)) (w 1) = fun y =>
      w ⟨(y 0).val / 16, by have := lt0 y; omega⟩ (ix2 ⟨(y 0).val % 16, Nat.mod_lt _ (by decide)⟩ ⟨(y 1).val, lt1 y⟩) := by
  funext y
  have h0 := lt0 y
  by_cases h : (y 0).val < 16
  · have e : (⟨(y 0).val / 16, by omega⟩ : Fin 2) = 0 := Fin.ext (by show (y 0).val / 16 = 0; omega)
    rw [e]
    refine (upd_miss _ _ fun j hj => ?_).trans ?_
    · have : 16 * 1 + (j 0).val = (y 0).val := congrArg (fun z => (z 0).val) hj
      omega
    · refine Eq.trans (congrArg _ (ext2 ?_ ?_)) (upd_hit (inHalf_inj 0) Y (w 0) _)
      · show (y 0).val = 16 * 0 + (y 0).val % 16; omega
      · rfl
  · have e : (⟨(y 0).val / 16, by omega⟩ : Fin 2) = 1 := Fin.ext (by show (y 0).val / 16 = 1; omega)
    rw [e]
    refine Eq.trans (congrArg _ (ext2 ?_ ?_)) (upd_hit (inHalf_inj 1) _ (w 1) _)
    · show (y 0).val = 16 * 1 + (y 0).val % 16; omega
    · rfl

/-! ## The steps -/

variable (oc : Dev nD → S32x768.Idx → Elt F .bf16)
  (κ : GSem nD τ sig → ℕ) (c : Dev nD) (Q : PUnit → sProp (MT nD τ sig Unit (Elt F) ℕ UU ℕ))

local notation "𝕊" => slots (blk0 Is) (blk1 oc)

theorem stage0_run (cm : S1024x640.Idx → Elt F .f32) (o : Fin 31) (b : Fin 2) (Y : S32x640.Idx → Elt F .bf16) (k : Pr F) :
    iprop(owns (c : Thread nD τ) (sbufRow o.succ) fullShare Y ∗ owns (c : Thread nD τ) comb fullShare cm
        ∗ (iprop(owns (c : Thread nD τ) (sbufRow o.succ) fullShare (upd (inHalf b) Y (k0_pay69 (rowsOf cm (c + o.succ : Fin 32) b)))
            ∗ owns (c : Thread nD τ) comb fullShare cm) -∗ wpT c Q k))
      ⊢ wpT c Q (stage0 c o b k) := by
  unfold stage0
  iintro ⟨Hs, Hc, Hk⟩
  iapply (ld c Q comb _ fullShare cm _)
  isplitl [Hc]; · iexact Hc
  iintro Hc
  have hq : ∀ j, (half0 o.succ b).emb j = (rows0 o.succ).emb (inHalf b j) := fun j => ext2
    (by show 32 * o.succ.val + 16 * b.val + 1 * (j 0).val = 32 * o.succ.val + 1 * (16 * b.val + (j 0).val); omega)
    (by show 0 + 1 * (j 1).val = 0 + 1 * (j 1).val; rfl)
  iapply (ldS c Q sbuf (rows0 o.succ) (fun _ => rfl) (half0 o.succ b) (inHalf b) hq fullShare Y _)
  isplitl [Hs]; · iexact Hs
  iintro Hs
  rw [show (fun j : (Rect.unit (s := S1024x640) (k0_off1 c (BitVec.ofNat 32 (512 * b.val)) (BitVec.ofNat 32 o.succ.val)) S16x640.size
      (inbPeer c o b)).toLoadRect.shape.Idx => cm ((Rect.unit (s := S1024x640) (k0_off1 c (BitVec.ofNat 32 (512 * b.val)) (BitVec.ofNat 32 o.succ.val)) S16x640.size
      (inbPeer c o b)).emb j)) = rowsOf cm (c + o.succ : Fin 32) b from by
    funext j
    refine congrArg cm (ext2 ?_ ?_)
    · show k0_off1 c (BitVec.ofNat 32 (512 * b.val)) (BitVec.ofNat 32 o.succ.val) 0 + 1 * (j 0).val = 512 * b.val + 16 * (c + o.succ : Fin 32).val + (j 0).val
      rw [peer_row]; omega
    · show k0_off1 c (BitVec.ofNat 32 (512 * b.val)) (BitVec.ofNat 32 o.succ.val) 1 + 1 * (j 1).val = (j 1).val
      rw [peer_col]; omega]
  iapply (stS c Q sbuf (rows0 o.succ) (fun _ => rfl) (half0 o.succ b) (inHalf b) hq Y _ k)
  isplitl [Hs]; · iexact Hs
  iintro Hs
  iapply Hk
  isplitl [Hs]; · iexact Hs
  iexact Hc

theorem send0_run (o : Fin 31) (O : CT) (W : Waits sig Unit) (k : Pr F) :
    iprop(records 𝕊 κ ∗ iprop(owns (c : Thread nD τ) (sbufRow o.succ) fullShare (sendV (combV c (Is c)) (c + o.succ : Fin 32)) ∗ sendArg 𝕊 0 c o.succ)
        ∗ owes (c : Thread nD τ) (O + tallyAt (cell 0 (c + o.succ : Fin 32) (.rcv o.succ)) () (N 0 o.succ)) W
        ∗ (iprop(cred (tallyAt (cell 0 c (.snd o.succ)) () (N 0 o.succ)) ∗ owes (c : Thread nD τ) O W) -∗ wpT c Q k))
      ⊢ wpT c Q (send0 c o.succ k) :=
  send_run 𝕊 κ 0 c Q (src := sbufRow o.succ) (dst := rbufRow o.succ) o.succ (Fin.succ_ne_zero o) (peer o.succ c) (peer_eq o.succ c)
    (sendV (combV c (Is c)) (c + o.succ : Fin 32))
    rfl
    (show freeS F 0 (peer o.succ c) o.succ ⊢ iprop(∃ Y, owns (peer o.succ c : Thread nD τ) (rbufRow o.succ) fullShare Y) from .rfl)
    (show owns (c : Thread nD τ) (sbufRow o.succ) fullShare _ ⊢ iprop(∃ Y, owns (c : Thread nD τ) (sbufRow o.succ) fullShare Y) by
      iintro H; iexists _; iexact H)
    (show owns (peer o.succ c : Thread nD τ) (rbufRow o.succ) fullShare (sendV (combV c (Is c)) (c + o.succ : Fin 32))
        ⊢ owns (peer o.succ c : Thread nD τ) (rbufRow o.succ) fullShare (blk0 Is (peer o.succ c) o.succ) from
      Entails.of_eq (by
        show _ = owns (peer o.succ c : Thread nD τ) (rbufRow o.succ) fullShare (sendV (combV (peer o.succ c - o.succ : Fin 32) (Is (peer o.succ c - o.succ : Fin 32))) (peer o.succ c))
        rw [show (peer o.succ c - o.succ : Fin 32) = c from by rw [peer_eq]; exact add_sub_cancel_right _ _, peer_eq]))
    O W k

/-- Both halves of a slot filled and the slot sent. -/
theorem pass0_run (o : Fin 31) (O : CT) (W : Waits sig Unit) (k : Pr F) :
    iprop(records 𝕊 κ ∗ iprop((∃ Y, owns (c : Thread nD τ) (sbufRow o.succ) fullShare Y) ∗ sendArg 𝕊 0 c o.succ)
        ∗ iprop(owns (c : Thread nD τ) comb fullShare (combV c (Is c))
          ∗ owes (c : Thread nD τ) (O + tallyAt (cell 0 (c + o.succ : Fin 32) (.rcv o.succ)) () (N 0 o.succ)) W)
        ∗ (iprop(cred (tallyAt (cell 0 c (.snd o.succ)) () (N 0 o.succ))
          ∗ iprop(owns (c : Thread nD τ) comb fullShare (combV c (Is c)) ∗ owes (c : Thread nD τ) O W)) -∗ wpT c Q k))
      ⊢ wpT c Q (stage0 c o 0 (stage0 c o 1 (send0 c o.succ k))) := by
  iintro ⟨#HR, ⟨⟨%Y, Hs⟩, Ha⟩, ⟨Hc, HO⟩, Hk⟩
  iapply (stage0_run c Q (combV c (Is c)) o 0 Y _)
  isplitl [Hs]; · iexact Hs
  isplitl [Hc]; · iexact Hc
  iintro ⟨Hs, Hc⟩
  iapply (stage0_run c Q (combV c (Is c)) o 1 _ _)
  isplitl [Hs]; · iexact Hs
  isplitl [Hc]; · iexact Hc
  iintro ⟨Hs, Hc⟩
  iapply (send0_run Is oc κ c Q o O W k)
  isplitr; · iexact HR
  isplitl [Hs Ha]
  · isplitl [Hs]
    · rw [show sendV (combV c (Is c)) (c + o.succ : Fin 32) = _ from
        (halves Y fun b => k0_pay69 (rowsOf (combV c (Is c)) (c + o.succ : Fin 32) b)).symm]
      iexact Hs
    iexact Ha
  isplitl [HO]; · iexact HO
  iintro ⟨Hcr, HO⟩
  iapply Hk
  isplitl [Hcr]; · iexact Hcr
  isplitl [Hc]; · iexact Hc
  iexact HO

theorem own0_run (b : Fin 2) (cm : S1024x640.Idx → Elt F .f32) (k : Vec F S16x640 .f32 → Pr F) :
    iprop(owns (c : Thread nD τ) comb fullShare cm ∗ (owns (c : Thread nD τ) comb fullShare cm -∗ wpT c Q (k (rowsOf cm c b))))
      ⊢ wpT c Q (own0 c b k) := by
  unfold own0
  rw [show rowsOf cm c b = fun j : (Rect.unit (s := S1024x640) (k0_off2 c (BitVec.ofNat 32 (512 * b.val))) S16x640.size (k0_off2_inb c b)).toLoadRect.shape.Idx =>
      cm ((Rect.unit (s := S1024x640) (k0_off2 c (BitVec.ofNat 32 (512 * b.val))) S16x640.size (k0_off2_inb c b)).emb j) from by
    funext j
    refine congrArg cm (ext2 ?_ ?_)
    · show 512 * b.val + 16 * c.val + (j 0).val = k0_off2 c (BitVec.ofNat 32 (512 * b.val)) 0 + 1 * (j 0).val
      rw [own_row]; omega
    · show (j 1).val = k0_off2 c (BitVec.ofNat 32 (512 * b.val)) 1 + 1 * (j 1).val
      rw [own_col]; omega]
  exact ld c Q comb (Rect.unit (s := S1024x640) (k0_off2 c (BitVec.ofNat 32 (512 * b.val))) S16x640.size (k0_off2_inb c b)) fullShare cm k

theorem take0_run (g : Fin 32 → S32x640.Idx → Elt F .bf16) (o : Fin 31) (k : Vec F S32x640 .bf16 → Pr F) :
    iprop(owns (c : Thread nD τ) rbuf fullShare (tile g) ∗ (owns (c : Thread nD τ) rbuf fullShare (tile g) -∗ wpT c Q (k (g o.succ))))
      ⊢ wpT c Q (take0 o.succ k) := by
  unfold take0
  rw [show g o.succ = fun j : (rows0 o.succ).toLoadRect.shape.Idx => tile g ((rows0 o.succ).emb j) from by
    funext j
    refine (tile_at g _ o.succ j ?_ ?_).symm
    · show 32 * o.succ.val + 1 * (j 0).val = _; omega
    · show 0 + 1 * (j 1).val = _; omega]
  exact ld c Q rbuf (rows0 o.succ) fullShare (tile g) k

theorem emit0_run (red : FVec F S32x640 .f32) (b : Fin 2) (I : Ins F) (Y : S32x768.Idx → Elt F .bf16) (k : Pr F) :
    iprop(owns (c : Thread nD τ) woB fullShare I.wo ∗ owns (c : Thread nD τ) outB fullShare Y
        ∗ (iprop(owns (c : Thread nD τ) woB fullShare I.wo ∗ owns (c : Thread nD τ) outB fullShare (upd (inHalf b) Y (chunkV red b (woV I)))) -∗ wpT c Q k))
      ⊢ wpT c Q (emit0 red b k) := by
  unfold emit0
  iintro ⟨Hw, Ho, Hk⟩
  iapply (ld c Q woB _ fullShare I.wo _)
  isplitl [Hw]; · iexact Hw
  iintro Hw
  iapply (ld c Q outB _ fullShare Y _)
  isplitl [Ho]; · iexact Ho
  iintro Ho
  iapply (st c Q outB (part0 b) Y (chunkV red b (woV I)) k)
  isplitl [Ho]; · iexact Ho
  rw [show ((part0 b).emb : S16x768.Idx → S32x768.Idx) = inHalf b from funext fun j => ext2
    (by show 16 * b.val + 1 * (j 0).val = 16 * b.val + (j 0).val; omega) (by show 0 + 1 * (j 1).val = (j 1).val; omega)]
  iintro Ho
  iapply Hk
  isplitl [Hw]; · iexact Hw
  iexact Ho

/-- What the first call's body starts from. -/
def pre0 : sProp 𝕄 :=
  iprop(iprop(atPos ER (cell 0 c .bar) 0 ∅ 0 ∗ fresh 0 c ∗ toks 0 c ∗ creds 0 c) ∗ insOwn c (Is c)
    ∗ owns (c : Thread nD τ) woB fullShare (Is c).wo ∗ (∃ X, owns (c : Thread nD τ) outB fullShare X)
    ∗ (∃ X, owns (c : Thread nD τ) comb fullShare X) ∗ (∃ X, owns (c : Thread nD τ) sbuf fullShare X)
    ∗ (∃ X, owns (c : Thread nD τ) rbuf fullShare X) ∗ ∃ W, owes (c : Thread nD τ) (later 0 c + dues 0 c) W)
/-- What it ends with. -/
def post0 : sProp 𝕄 :=
  iprop(iprop(semVal (cell 0 c .bar) 0 ∗ Pipeline.ownSems0 (osem 0) c) ∗ insOwn c (Is c)
    ∗ owns (c : Thread nD τ) woB fullShare (Is c).wo ∗ owns (c : Thread nD τ) outB fullShare (chunkC Is c)
    ∗ (∃ X, owns (c : Thread nD τ) comb fullShare X) ∗ (∃ X, owns (c : Thread nD τ) sbuf fullShare X)
    ∗ (∃ X, owns (c : Thread nD τ) rbuf fullShare X) ∗ ∃ W, owes (c : Thread nD τ) (later 0 c) W)

/-- Slot 0 and the landed blocks, as the landing buffer's contents. -/
theorem join0 [∀ e, Nonempty (Elt F e)] (Y : S32x640.Idx → Elt F .bf16) :
    iprop(owns (c : Thread nD τ) (rbufRow 0) fullShare Y
      ∗ bigSep Finset.univ fun o : Fin 31 => owns (c : Thread nD τ) (rbufRow o.succ) fullShare (blk0 Is c o.succ))
      ⊢ (owns (c : Thread nD τ) rbuf fullShare (tile (Fin.cons Y fun o : Fin 31 => blk0 Is c o.succ)) : sProp 𝕄) :=
  (Entails.of_eq (family_succ (n := 31) fun o : Fin 32 => (owns (c : Thread nD τ) (rbufRow o) fullShare
      ((Fin.cons Y fun o : Fin 31 => blk0 Is c o.succ : Fin 32 → S32x640.Idx → Elt F .bf16) o) : sProp 𝕄)).symm).trans
    (blocks_join (F := F) c fullShare rbuf inbSlot (Fin.cons Y fun o : Fin 31 => blk0 Is c o.succ))

set_option maxHeartbeats 1000000 in
/-- The first call's body, run. -/
theorem run0 [∀ e, Nonempty (Elt F e)] :
    iprop(iprop(records 𝕊 κ ∗ levAts L lv) ∗ pre0 Is c ∗ (post0 Is c -∗ Q ⟨⟩)) ⊢ wpT c Q body0 := by
  unfold pre0 body0
  iintro ⟨⟨#HR, #Hlev⟩, ⟨Htalk, Hins, Hwo, ⟨%Yo, Hout⟩, ⟨%X, Hc⟩, Hsb, Hrb, HO⟩, Hk⟩
  iapply (device_run c Q _)
  iapply (show _ ⊢ wpT c Q (each 32 signal0 (.op (.semWait bar0.sem (32#32).toInt) fun _ => _)) from talk_open 𝕊 κ 0 c Q _)
  isplitr
  · isplitr; · iexact HR
    iexact Hlev
  isplitl [Htalk]; · iexact Htalk
  isplitl [Hrb]; · iapply (show iprop(∃ X, owns (c : Thread nD τ) rbuf fullShare X) ⊢ (bigSep Finset.univ fun o : Fin 32 => freeS F 0 c o : sProp 𝕄) from
      blocks_split (F := F) c fullShare rbuf inbSlot) $$ Hrb
  isplitl [HO]; · iexact HO
  iintro ⟨Hmid, HO⟩
  unfold mid
  icases Hmid with ⟨Hzero, Hsnd, Hargs, Hrcv, Hfree⟩
  ihave Hfree := (show (𝕊).free 0 c 0 ⊢ iprop(∃ Y, owns (c : Thread nD τ) (rbufRow 0) fullShare Y) from .rfl) $$ Hfree
  icases Hfree with ⟨%Yr, Hr0⟩
  iapply (batch0_run c Q (Is c) 0 X _)
  isplitl [Hins]; · iexact Hins
  isplitl [Hc]; · iexact Hc
  iintro ⟨Hins, %X1, %hX1, Hc⟩
  iapply (batch0_run c Q (Is c) 1 X1 _)
  isplitl [Hins]; · iexact Hins
  isplitl [Hc]; · iexact Hc
  iintro ⟨Hins, %X2, %hX2, Hc⟩
  rw [rows_both c (Is c) X X1 X2 hX1 hX2]
  ihave Hsb := (show iprop(∃ X, owns (c : Thread nD τ) sbuf fullShare X) ⊢ (iprop((∃ X, owns (c : Thread nD τ) (sbufRow 0) fullShare X)
      ∗ bigSep Finset.univ fun o : Fin 31 => iprop(∃ X, owns (c : Thread nD τ) (sbufRow o.succ) fullShare X)) : sProp 𝕄) from
    (blocks_split (F := F) c fullShare sbuf inbSlot).trans (Entails.of_eq (family_succ _))) $$ Hsb
  icases Hsb with ⟨Hsb0, Hsb⟩
  icases HO with ⟨%W, HO⟩
  iapply (each_pay (wpT c Q) (records 𝕊 κ) (fun O => iprop(owns (c : Thread nD τ) comb fullShare (combV c (Is c)) ∗ owes (c : Thread nD τ) O W))
    (later 0 c) 31 (fun o K => stage0 c o 0 (stage0 c o 1 (send0 c o.succ K)))
    (fun o => iprop((∃ Y, owns (c : Thread nD τ) (sbufRow o.succ) fullShare Y) ∗ sendArg 𝕊 0 c o.succ))
    (fun o => cred (tallyAt (cell 0 c (.snd o.succ)) () (N 0 o.succ)))
    (fun o => tallyAt (cell 0 (c + o.succ : Fin 32) (.rcv o.succ)) () (N 0 o.succ))
    (fun o k O => pass0_run Is oc κ c Q o O W k))
  isplitr; · iexact HR
  isplitl [Hsb Hargs]
  · iapply pairUp
    isplitl [Hsb]; · iexact Hsb
    iexact Hargs
  isplitl [Hc HO]
  · isplitl [Hc]; · iexact Hc
    iexact HO
  iintro ⟨Hcs, Hc, HO⟩
  iapply (each_inv (wpT c Q) iprop(records 𝕊 κ ∗ levAts L lv) 31 (fun o => arrive0 o.succ)
    (fun o => iprop(cred (tallyAt (cell 0 c (.rcv o.succ)) () (N 0 o.succ)) ∗ atPos ER (cell 0 c (.rcv o.succ)) 0 ∅ 0))
    (fun o => iprop(atPos ER (cell 0 c (.rcv o.succ)) 1 ∅ 0 ∗ owns (c : Thread nD τ) (rbufRow o.succ) fullShare (blk0 Is c o.succ)))
    (fun _ => iprop(∃ W, owes (c : Thread nD τ) (later 0 c) W))
    (fun o k => arrive_run 𝕊 κ 0 c Q (src := sbufRow o.succ) (dst := rbufRow o.succ) o.succ (Fin.succ_ne_zero o) rfl _ _ k))
  isplitr
  · isplitr; · iexact HR
    iexact Hlev
  isplitl [Hrcv]; · iexact Hrcv
  isplitl [HO]; · iexists W; iexact HO
  iintro ⟨Hrcv, HO⟩
  ihave Hrcv := pairDown $$ Hrcv
  icases Hrcv with ⟨Hrcv, Hr⟩
  ihave Hr := (join0 (F := F) Is c Yr) $$ [Hr0 Hr]
  · isplitl [Hr0]; · iexact Hr0
    iexact Hr
  iapply (own0_run c Q 0 (combV c (Is c)) _)
  isplitl [Hc]; · iexact Hc
  iintro Hc
  iapply (own0_run c Q 1 (combV c (Is c)) _)
  isplitl [Hc]; · iexact Hc
  iintro Hc
  iapply (eachGet_inv (wpT c Q) 31 (fun o => take0 o.succ)
    (fun _ => owns (c : Thread nD τ) rbuf fullShare (tile (Fin.cons Yr fun o : Fin 31 => blk0 Is c o.succ))) (fun o => blk0 Is c o.succ)
    (fun o k => take0_run c Q (Fin.cons Yr fun o : Fin 31 => blk0 Is c o.succ) o k) _)
  isplitl [Hr]; · iexact Hr
  iintro Hr
  iapply (emit0_run c Q (redC Is c) 0 (Is c) Yo _)
  isplitl [Hwo]; · iexact Hwo
  isplitl [Hout]; · iexact Hout
  iintro ⟨Hwo, Hout⟩
  iapply (emit0_run c Q (redC Is c) 1 (Is c) _ _)
  isplitl [Hwo]; · iexact Hwo
  isplitl [Hout]; · iexact Hout
  iintro ⟨Hwo, Hout⟩
  iapply (each_inv (wpT c Q) iprop(records 𝕊 κ ∗ levAts L lv) 31 (fun o => sent0 o.succ)
    (fun o => iprop(cred (tallyAt (cell 0 c (.snd o.succ)) () (N 0 o.succ)) ∗ atPos ER (cell 0 c (.snd o.succ)) 0 ∅ 0))
    (fun o => iprop(atPos ER (cell 0 c (.snd o.succ)) 1 ∅ 0 ∗ ∃ Y, owns (c : Thread nD τ) (sbufRow o.succ) fullShare Y))
    (fun _ => iprop(∃ W, owes (c : Thread nD τ) (later 0 c) W))
    (fun o k => sent_run 𝕊 κ 0 c Q (src := rbufRow o.succ) (dst := sbufRow o.succ) o.succ (Fin.succ_ne_zero o) rfl _ _ k))
  isplitr
  · isplitr; · iexact HR
    iexact Hlev
  isplitl [Hcs Hsnd]
  · iapply pairUp
    isplitl [Hcs]; · iexact Hcs
    iexact Hsnd
  isplitl [HO]; · iexact HO
  iintro ⟨Hsnd, HO⟩
  ihave Hsnd := pairDown $$ Hsnd
  icases Hsnd with ⟨Hsnd, Hsb⟩
  iapply (end_run c Q ⟨⟩)
  imod (talk_close 𝕊 κ 0 c) $$ [Hzero Hsnd Hrcv] with Hsem
  · isplitr; · iexact HR
    isplitl [Hzero]; · iexact Hzero
    isplitl [Hsnd]; · iexact Hsnd
    iexact Hrcv
  imodintro
  iapply Hk
  unfold post0
  isplitl [Hsem]; · iexact Hsem
  isplitl [Hins]; · iexact Hins
  isplitl [Hwo]; · iexact Hwo
  isplitl [Hout]
  · rw [show chunkC Is c = _ from (halves Yo fun b => chunkV (redC Is c) b (woV (Is c))).symm]
    iexact Hout
  isplitl [Hc]; · iexists _; iexact Hc
  isplitl [Hsb Hsb0]
  · iapply (show iprop((∃ X, owns (c : Thread nD τ) (sbufRow 0) fullShare X)
      ∗ bigSep Finset.univ fun o : Fin 31 => iprop(∃ X, owns (c : Thread nD τ) (sbufRow o.succ) fullShare X))
      ⊢ (iprop(∃ X, owns (c : Thread nD τ) sbuf fullShare X) : sProp 𝕄) from
      BI.Entails.trans (Entails.of_eq (family_succ (n := 31) fun o : Fin 32 => (iprop(∃ X, owns (c : Thread nD τ) (sbufRow o) fullShare X) : sProp 𝕄)).symm)
        (blocks_join_any (F := F) c fullShare sbuf inbSlot))
    isplitl [Hsb0]; · iexact Hsb0
    iexact Hsb
  isplitl [Hr]; · iexists _; iexact Hr
  iexact HO

end Cert.KernelIdeal.Own

end
-- ==== Proof.Data.lean ====
/- What the two calls find and leave: the contents of their windows, what a device holds and owes before and after each. -/
module

public import proofs.«01_k».proof.Proof.Fold0
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## The values -/

/-- What the first call's windows hold on device `c`. -/
def Is (c : Dev nD) : Ins F where
  x := V1 m c main_v1
  wq := V1 m c main_arg1
  k := V1 m c main_v2
  v := V1 m c main_v3
  wo := V1 m c main_arg4

/-- What the first call leaves: device `c`'s chunk. -/
def chunkM (c : Dev nD) : S32x768.Idx → Elt F .bf16 := chunkC (Is m) c
/-- What the second call leaves on every device. -/
def resultM : S1024x768.Idx → Elt F .f32 := gathered (chunkM m)

/-- What the two calls leave in the arrays they write. -/
def outs : Outs (F := F) := fun j r c =>
  if h : r = main_v4 then h ▸ (chunkM m c : Buf (Elt F) ((c : Thread nD τ).loc main_v4))
  else if h : r = main_v5 then h ▸ (resultM m : Buf (Elt F) ((c : Thread nD τ).loc main_v5))
  else m ((c : Thread nD τ).loc r)

theorem outs_v4 (j : ℕ) (c : Dev nD) : outs m j main_v4 c = chunkM m c := by
  unfold outs; rw [dif_pos rfl]
theorem outs_v5 (j : ℕ) (c : Dev nD) : outs m j main_v5 c = resultM m := by
  unfold outs; rw [dif_neg (by decide), dif_pos rfl]

/-- What changes hands, at these values. -/
abbrev SM : Slots F := slots (blk0 (Is m)) (blk1 (chunkM m))

/-! ## The proof data -/

/-- What a device holds of phase `p`'s talking when the call begins. -/
def started (p : Fin 2) (c : Dev nD) : sProp 𝕄 :=
  iprop(∃ κ, iprop(records (SM m) κ ∗ levAts L lv) ∗ iprop(atPos ER (cell p c .bar) 0 ∅ 0 ∗ fresh p c ∗ toks p c ∗ creds p c))
/-- And when it ends. -/
def ended (p : Fin 2) (c : Dev nD) : sProp 𝕄 := iprop(semVal (cell p c .bar) 0 ∗ Pipeline.ownSems0 (osem p) c)

def dat0 (c : Dev nD) : Dat τ (Elt F) Unit ℕ UU ℕ cfg0 c where
  A w := V1 m c (Pipeline.arrRef spec0 w)
  after w _ := match w with
    | ⟨0, _⟩ => (Is m c).x
    | ⟨1, _⟩ => (Is m c).wq
    | ⟨2, _⟩ => (Is m c).k
    | ⟨3, _⟩ => (Is m c).v
    | ⟨4, _⟩ => (Is m c).wo
    | ⟨5, _⟩ => chunkM m c
    | ⟨_ + 6, h⟩ => absurd h (Nat.not_lt.2 (Nat.le_add_left _ _))
  Φ t := if t.val = 0 then iprop(started m 0 c ∗ Pipeline.scopedRest spec0 c ∗ ∃ r, prngReg c r)
    else iprop(ended 0 c ∗ Pipeline.scopedRest spec0 c ∗ ∃ r, prngReg c r)
  q _ := fullShare
  owed t := if t.val = 0 then later 0 c + dues 0 c else later 0 c

def dat1 (c : Dev nD) : Dat τ (Elt F) Unit ℕ UU ℕ cfg1 c where
  A w := V2 m (outs m) c (Pipeline.arrRef spec1 w)
  after w _ := match w with
    | ⟨0, _⟩ => chunkM m c
    | ⟨1, _⟩ => resultM m
    | ⟨_ + 2, h⟩ => absurd h (Nat.not_lt.2 (Nat.le_add_left _ _))
  Φ t := if t.val = 0 then iprop(started m 1 c ∗ Pipeline.scopedRest spec1 c ∗ ∃ r, prngReg c r)
    else iprop(ended 1 c ∗ Pipeline.scopedRest spec1 c ∗ ∃ r, prngReg c r)
  q _ := fullShare
  owed t := if t.val = 0 then later 1 c + dues 1 c else later 1 c

def pdats : (p : Fin 2) → (c : Dev nD) → Dat τ (Elt F) Unit ℕ UU ℕ (Pipeline.pin (pcfgs (F := F)) adm p) c
  | 0 => dat0 m
  | 1 => dat1 m

/-! ## What the windows hold -/

section Windows

variable (c : Dev nD)

/-- A window on a whole array, just fetched, holds the array. -/
theorem before_whole {cfg : Pipeline.Cfg sig Λ₀} (dat : Dat τ (Elt F) Unit ℕ UU ℕ cfg c) (w : Fin cfg.W) (t : Fin cfg.N)
    (hf : (cfg.win w).fetch t = true) (X : (cfg.win w).block.Idx → Elt F (cfg.win w).elt) (hX : dat.fetched w t X = X)
    (hc : ∀ a, (cfg.win w).clip (cfg.grid.coords t) a = none) (d : (cfg.win w).block.Idx → Elt F (cfg.win w).elt) : dat.before w t d = X :=
  (dat.before_fetched w t hf d).trans ((dat.fetched_of_clip_none w t hc d X).trans hX)

theorem before0_0 (d) : (dat0 m c).before 0 t0_0 d = (Is m c).x := by
  refine before_whole c (dat0 m c) 0 t0_0 (fetch0_0 _) _ (funext fun j => ?_) (fun _ => rfl) d
  exact congrArg (V1 m c (Pipeline.arrRef spec0 0)) (ext2 (by blk_simp; exact Nat.zero_add _) (by blk_simp; exact Nat.zero_add _))
theorem before0_1 (d) : (dat0 m c).before 1 t0_0 d = (Is m c).wq := by
  refine before_whole c (dat0 m c) 1 t0_0 (fetch0_1 _) _ (funext fun j => ?_) (fun _ => rfl) d
  exact congrArg (V1 m c (Pipeline.arrRef spec0 1)) (ext2 (by blk_simp; exact Nat.zero_add _) (by blk_simp; exact Nat.zero_add _))
theorem before0_2 (d) : (dat0 m c).before 2 t0_0 d = (Is m c).k := by
  refine before_whole c (dat0 m c) 2 t0_0 (fetch0_2 _) _ (funext fun j => ?_) (fun _ => rfl) d
  exact congrArg (V1 m c (Pipeline.arrRef spec0 2)) (ext2 (by blk_simp; exact Nat.zero_add _) (by blk_simp; exact Nat.zero_add _))
theorem before0_3 (d) : (dat0 m c).before 3 t0_0 d = (Is m c).v := by
  refine before_whole c (dat0 m c) 3 t0_0 (fetch0_3 _) _ (funext fun j => ?_) (fun _ => rfl) d
  exact congrArg (V1 m c (Pipeline.arrRef spec0 3)) (ext2 (by blk_simp; exact Nat.zero_add _) (by blk_simp; exact Nat.zero_add _))
theorem before0_4 (d) : (dat0 m c).before 4 t0_0 d = (Is m c).wo := by
  refine before_whole c (dat0 m c) 4 t0_0 (fetch0_4 _) _ (funext fun j => ?_) (fun _ => rfl) d
  exact congrArg (V1 m c (Pipeline.arrRef spec0 4)) (ext2 (by blk_simp; exact Nat.zero_add _) (by blk_simp; exact Nat.zero_add _))
theorem before1_0 (d) : (dat1 m c).before 0 t1_0 d = chunkM m c := by
  refine before_whole c (dat1 m c) 0 t1_0 (fetch1_0 _) _ (funext fun j => ?_) (fun _ => rfl) d
  refine Eq.trans ?_ ((congrFun (Function.update_self (Proc.devRef .tc main_v4) (outs m 2 main_v4 c) (V1 m c)) j).trans (congrFun (outs_v4 m 2 c) j))
  exact congrArg (V2 m (outs m) c (Pipeline.arrRef spec1 0)) (ext2 (by blk_simp; exact Nat.zero_add _) (by blk_simp; exact Nat.zero_add _))

/-- The arrays after the calls. -/
theorem arrAt0 : ∀ w : Fin 6, (dat0 m c).arrAt w cfg0.N = V2 m (outs m) c (Pipeline.arrRef spec0 w)
  | 0 => ((dat0 m c).arrAt_in 0 rfl _).trans (V2_of m (outs m) c main_v1 (by decide)).symm
  | 1 => ((dat0 m c).arrAt_in 1 rfl _).trans (V2_of m (outs m) c main_arg1 (by decide)).symm
  | 2 => ((dat0 m c).arrAt_in 2 rfl _).trans (V2_of m (outs m) c main_v2 (by decide)).symm
  | 3 => ((dat0 m c).arrAt_in 3 rfl _).trans (V2_of m (outs m) c main_v3 (by decide)).symm
  | 4 => ((dat0 m c).arrAt_in 4 rfl _).trans (V2_of m (outs m) c main_arg4 (by decide)).symm
  | 5 => by
    refine Eq.trans ?_ ((outs_v4 m 2 c).symm.trans (Function.update_self (Proc.devRef .tc main_v4) (outs m 2 main_v4 c) (V1 m c)).symm)
    refine (dat0 m c).arrAt_eq_of_after_last 5 t0_0 (by decide +kernel) _ fun j => ?_
    refine Eq.trans (b := chunkM m c j) ?_ ?_
    · rfl
    · exact congrArg (chunkM m c) (ext2 (by blk_simp) (by blk_simp))
theorem arrAt1 : ∀ w : Fin 2, (dat1 m c).arrAt w cfg1.N = V3 m (outs m) c (Pipeline.arrRef spec1 w)
  | 0 => ((dat1 m c).arrAt_in 0 rfl _).trans (V3_of m (outs m) c main_v4 (by decide)).symm
  | 1 => by
    refine Eq.trans ?_ ((outs_v5 m 3 c).symm.trans (Function.update_self (Proc.devRef .tc main_v5) (outs m 3 main_v5 c) (V2 m (outs m) c)).symm)
    refine (dat1 m c).arrAt_eq_of_after_last 1 t1_0 (by decide +kernel) _ fun j => ?_
    refine Eq.trans (b := resultM m j) ?_ ?_
    · rfl
    · exact congrArg (resultM m) (ext2 (by blk_simp) (by blk_simp))

end Windows

end Cert.KernelIdeal.Own

end
-- ==== Proof.Obligation.lean ====
/- The two calls' bodies as the pipeline asks for them: from the windows filled to the windows to be written back. -/
module

public import proofs.«01_k».proof.Proof.Data
public import proofs.«01_k».proof.Proof.Run1

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## What is owed at the two points -/

theorem owed0_zero (c : Dev nD) : (dat0 m c).owed 0 = later 0 c + dues 0 c := by
  show (if ((0 : Fin (cfg0.N + 1)).val = 0) then later 0 c + dues 0 c else later 0 c) = _; exact if_pos rfl
theorem owed0_last (c : Dev nD) : (dat0 m c).owed (Fin.last cfg0.N) = later 0 c := by
  show (if (Fin.last cfg0.N).val = 0 then later 0 c + dues 0 c else later 0 c) = _
  rw [Fin.val_last, if_neg (by rw [show cfg0.N = 1 from N_0]; decide)]
theorem owed1_zero (c : Dev nD) : (dat1 m c).owed 0 = later 1 c + dues 1 c := by
  show (if ((0 : Fin (cfg1.N + 1)).val = 0) then later 1 c + dues 1 c else later 1 c) = _; exact if_pos rfl
theorem owed1_last (c : Dev nD) : (dat1 m c).owed (Fin.last cfg1.N) = later 1 c := by
  show (if (Fin.last cfg1.N).val = 0 then later 1 c + dues 1 c else later 1 c) = _
  rw [Fin.val_last, if_neg (by rw [show cfg1.N = 1 from N_1]; decide)]

/-- Owing a tally is owing what the data says at a point where that is the tally, -/
theorem owes_at {cfg : Pipeline.Cfg sig Λ₀} {c : Dev nD} (dat : Dat τ (Elt F) Unit ℕ UU ℕ cfg c) (t : Fin (cfg.N + 1))
    (O : CT) (h0 : dat.owed t = O) (hr : dat.recorded t = Set.univ) :
    (iprop(∃ W, owes (c : Thread nD τ) O W) : sProp 𝕄) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
/-- and back. -/
theorem at_owes {cfg : Pipeline.Cfg sig Λ₀} {c : Dev nD} (dat : Dat τ (Elt F) Unit ℕ UU ℕ cfg c) (t : Fin (cfg.N + 1))
    (O : CT) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- A whole buffer at some contents, as a memref's, -/
theorem own_any (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  iintro ⟨%f, H⟩; iexists f
  iapply (Entails.of_eq (owns_whole (c : Thread nD τ) b fullShare f).symm) $$ H
/-- and back. -/
theorem any_own (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  iintro ⟨%f, H⟩; iexists f
  iapply (Entails.of_eq (owns_whole (c : Thread nD τ) b fullShare f)) $$ H

/-! ## The bodies -/

theorem body_first [∀ e, Nonempty (Elt F e)] (c : Dev nD) : BodyObligation (dat0 m c) defs₀ 𝒱₀ () Set.univ := fun t => by
  obtain rfl := fin_N0 t
  rw [show (dat0 m c).Φ t0_0.castSucc = iprop(started m 0 c ∗ Pipeline.scopedRest spec0 c ∗ ∃ r, prngReg c r) from rfl,
    show (dat0 m c).Φ t0_0.succ = iprop(ended 0 c ∗ Pipeline.scopedRest spec0 c ∗ ∃ r, prngReg c r) from rfl, scopedRest0_eq]
  rw [bigSep_W0, bigSep_W0]
  iintro ⟨⟨Hst, ⟨Hs0, Hs1, Hs2, Hsr⟩, Hp⟩, HO, ⟨%d0, Hx⟩, ⟨%d1, Hw⟩, ⟨%d2, Hk⟩, ⟨%d3, Hv⟩, ⟨%d4, Hwo⟩, ⟨%d5, Hout⟩⟩
  unfold started ended
  icases Hst with ⟨%κ, HR, Ht⟩
  ihave HO := (at_owes (dat0 m c) t0_0.castSucc _ (owed0_zero m c)) $$ HO
  ihave Hs0 := (own_any c cc0_scratch0) $$ Hs0
  ihave Hs1 := (own_any c cc0_scratch1) $$ Hs1
  ihave Hs2 := (own_any c cc0_scratch2) $$ Hs2
  iapply (show _ ⊢ wpT c _ body0 from run0 (Is m) (chunkM m) κ c _)
  isplitl [HR]; · iexact HR
  isplitl [Ht Hx Hw Hk Hv Hwo Hout Hs0 Hs1 Hs2 HO]
  · unfold pre0 insOwn
    isplitl [Ht]; · iexact Ht
    isplitl [Hx Hw Hk Hv]
    · isplitl [Hx]; · rw [← before0_0 m c d0]; iexact Hx
      isplitl [Hw]; · rw [← before0_1 m c d1]; iexact Hw
      isplitl [Hk]; · rw [← before0_2 m c d2]; iexact Hk
      rw [← before0_3 m c d3]; iexact Hv
    isplitl [Hwo]; · rw [← before0_4 m c d4]; iexact Hwo
    isplitl [Hout]; · iexists _; iexact Hout
    isplitl [Hs0]; · iexact Hs0
    isplitl [Hs1]; · iexact Hs1
    isplitl [Hs2]; · iexact Hs2
    iexact HO
  unfold post0 insOwn
  iintro ⟨He, ⟨Hx, Hw, Hk, Hv⟩, Hwo, Hout, Hs0, Hs1, Hs2, HO⟩
  isplitl [He Hs0 Hs1 Hs2 Hsr Hp]
  · isplitl [He]; · iexact He
    isplitr [Hp]
    · isplitl [Hs0]; · iapply (any_own c cc0_scratch0) $$ Hs0
      isplitl [Hs1]; · iapply (any_own c cc0_scratch1) $$ Hs1
      isplitl [Hs2]; · iapply (any_own c cc0_scratch2) $$ Hs2
      iexact Hsr
    iexact Hp
  isplitl [HO]
  · iapply (owes_at (dat0 m c) t0_0.succ _ (owed0_last m c) rfl) $$ HO
  isplitl [Hx]; · iexact Hx
  isplitl [Hw]; · iexact Hw
  isplitl [Hk]; · iexact Hk
  isplitl [Hv]; · iexact Hv
  isplitl [Hwo]; · iexact Hwo
  iexact Hout

theorem body_second [∀ e, Nonempty (Elt F e)] (c : Dev nD) : BodyObligation (dat1 m c) defs₀ 𝒱₀ () Set.univ := fun t => by
  obtain rfl := fin_N1 t
  rw [show (dat1 m c).Φ t1_0.castSucc = iprop(started m 1 c ∗ Pipeline.scopedRest spec1 c ∗ ∃ r, prngReg c r) from rfl,
    show (dat1 m c).Φ t1_0.succ = iprop(ended 1 c ∗ Pipeline.scopedRest spec1 c ∗ ∃ r, prngReg c r) from rfl, scopedRest1_eq]
  rw [bigSep_W1, bigSep_W1]
  iintro ⟨⟨Hst, ⟨R0, R1, R2, R3, R4, R5, R6, R7, R8, Hs0, Hs1⟩, Hp⟩, HO, ⟨%d0, Hx⟩, ⟨%d1, Hres⟩⟩
  unfold started ended
  icases Hst with ⟨%κ, HR, Ht⟩
  ihave HO := (at_owes (dat1 m c) t1_0.castSucc _ (owed1_zero m c)) $$ HO
  ihave Hs0 := (own_any c cc1_scratch0) $$ Hs0
  ihave Hs1 := (own_any c cc1_scratch1) $$ Hs1
  iapply (show _ ⊢ wpT c _ body1 from run1 (blk0 (Is m)) (chunkM m) κ c _)
  isplitl [HR]; · iexact HR
  isplitl [Ht Hx Hres Hs0 Hs1 HO]
  · unfold pre1
    isplitl [Ht]; · iexact Ht
    isplitl [Hx]; · rw [← before1_0 m c d0]; iexact Hx
    isplitl [Hres]; · iexists _; iexact Hres
    isplitl [Hs0]; · iexact Hs0
    isplitl [Hs1]; · iexact Hs1
    iexact HO
  unfold post1
  iintro ⟨He, Hx, Hres, Hs0, Hs1, HO⟩
  isplitl [He Hs0 Hs1 R0 R1 R2 R3 R4 R5 R6 R7 R8 Hp]
  · isplitl [He]; · iexact He
    isplitr [Hp]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [Hs0]; · iapply (any_own c cc1_scratch0) $$ Hs0
      iapply (any_own c cc1_scratch1) $$ Hs1
    iexact Hp
  isplitl [HO]
  · iapply (owes_at (dat1 m c) t1_0.succ _ (owed1_last m c) rfl) $$ HO
  isplitl [Hx]; · iexact Hx
  iexact Hres

end Cert.KernelIdeal.Own

end
-- ==== Proof.Segments.lean ====
/- The two calls as steps of the program: entered and left with the unscoped buffers held, the talk's ghost state riding along. -/
module

public import proofs.«01_k».proof.Proof.Obligation

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## What the program's steps pass on -/

/-- Phase `p`'s talk on device `c`, before its semaphores are opened. -/
def dormant (p : Fin 2) (c : Dev nD) : sProp 𝕄 :=
  iprop(∃ κ, records (SM m) κ ∗ atPos ER (cell p c .bar) 0 ∅ 0 ∗ (bigSep Finset.univ fun k : Bool × Fin 32 => openTok ER (cell p c (rl k.1 k.2)))
    ∗ toks p c ∗ creds p c)

/-- Opening the phase's semaphores starts the talk. -/
theorem start_talk (p : Fin 2) (c : Dev nD) :
    iprop(dormant m p c ∗ Pipeline.ownSems0 (osem p) c ∗ levAts L lv) ⊢ (|={Set.univ}=> started m p c : sProp 𝕄) := by
  unfold dormant started
  iintro ⟨⟨%κ, #HR, Hat, Ho, Ht, Hc⟩, Hz, #Hlev⟩
  imod (talk_fresh (SM m) κ p c) $$ [Ho Hz] with Hf
  · isplitr; · iexact HR
    isplitl [Ho]; · iexact Ho
    iexact Hz
  imodintro
  iexists κ
  isplitr
  · isplitr; · iexact HR
    iexact Hlev
  isplitl [Hat]; · iexact Hat
  isplitl [Hf]; · iexact Hf
  isplitl [Ht]; · iexact Ht
  iexact Hc

/-- What rides beside the buffers before, between and after the two calls. -/
def E : Fin 3 → Dev nD → sProp (MT nD τ sig Unit (Elt F) ℕ UU ℕ)
  | 0, c => iprop((∃ r, prngReg c r) ∗ dormant m 0 c ∗ dormant m 1 c ∗ ∃ W, owes (c : Thread nD τ) (later 0 c + dues 0 c) W)
  | 1, c => iprop((∃ r, prngReg c r) ∗ semVal (cell 0 c .bar) 0 ∗ dormant m 1 c ∗ ∃ W, owes (c : Thread nD τ) (later 0 c) W)
  | 2, c => iprop((∃ r, prngReg c r) ∗ semVal (cell 0 c .bar) 0 ∗ semVal (cell 1 c .bar) 0 ∗ ∃ W, owes (c : Thread nD τ) (0 : CT) W)

/-! ## The staging semaphores are at level 0, below all that is owed -/

theorem staging0 : ∀ (w : Fin 6) (s : Fin (spec0 w).nbuf), role (.dma ((spec0 w).sem s)) = none := by decide +kernel
theorem staging1 : ∀ (w : Fin 2) (s : Fin (spec1 w).nbuf), role (.dma ((spec1 w).sem s)) = none := by decide +kernel

theorem owed_above {p : Fin 2} {c : Dev nD} {n : ℕ} {g : GSem nD τ sig} {u : Unit}
    (h : 0 < (if n = 0 then later p c + dues p c else later p c) g u) : u ∈ L g ∧ 0 < lv g u := by
  split at h
  · rcases add_apply_pos h with h | h
    · exact ⟨(later_pos h).1, by have := (later_pos h).2; omega⟩
    · exact ⟨(dues_pos h).1, by have := (dues_pos h).2; omega⟩
  · exact ⟨(later_pos h).1, by have := (later_pos h).2; omega⟩

/-! ## The arrays among the unscoped buffers -/

abbrev arrs0 : Finset (DevRef τ sig) := Pipeline.arrRefs (τ := τ) spec0
abbrev arrs1 : Finset (DevRef τ sig) := Pipeline.arrRefs (τ := τ) spec1
abbrev rest0 : Finset (DevRef τ sig) := Pipeline.ucRefs τ sig \ arrs0
abbrev rest1 : Finset (DevRef τ sig) := Pipeline.ucRefs τ sig \ arrs1
theorem arrs0_sub : arrs0 ⊆ Pipeline.ucRefs τ sig := by decide
theorem arrs1_sub : arrs1 ⊆ Pipeline.ucRefs τ sig := by decide
theorem v4_mem : Proc.devRef .tc main_v4 ∈ arrs0 := by decide
theorem v5_mem : Proc.devRef .tc main_v5 ∈ arrs1 := by decide

theorem rest_same0 (c : Dev nD) (b : DevRef τ sig) (hb : b ∈ rest0 \ ∅) : V2 m (outs m) c b = V1 m c b :=
  Function.update_of_ne (fun h : b = Proc.devRef .tc main_v4 => (Finset.mem_sdiff.mp (Finset.mem_sdiff.mp hb).1).2 (by rw [h]; exact v4_mem)) _ _
theorem rest_same1 (c : Dev nD) (b : DevRef τ sig) (hb : b ∈ rest1 \ ∅) : V3 m (outs m) c b = V2 m (outs m) c b :=
  Function.update_of_ne (fun h : b = Proc.devRef .tc main_v5 => (Finset.mem_sdiff.mp (Finset.mem_sdiff.mp hb).1).2 (by rw [h]; exact v5_mem)) _ _

/-! ## Into and out of the calls -/

theorem none_held (c : Dev nD) (W : Valuation τ sig (Elt F)) : (StableHlo.held (c.tc : Thread nD τ) ∅ W : sProp 𝕄) = BI.emp := by
  unfold StableHlo.held; exact BI.bigSep_empty

theorem enter0 (c : Dev nD) : iprop(Pipeline.scopedRest (Pipeline.pin (pcfgs (F := F)) adm 0).spec c ∗ (∃ r, prngReg c r)
    ∗ StableHlo.held (c.tc : Thread nD τ) ∅ (V1 m c) ∗ started m 0 c) ⊢ (pdats m 0 c).Φ 0 := by
  rw [show (pdats m 0 c).Φ 0 = iprop(started m 0 c ∗ Pipeline.scopedRest spec0 c ∗ ∃ r, prngReg c r) from rfl]
  iintro ⟨Hs, Hp, -, Ht⟩
  isplitl [Ht]; · iexact Ht
  isplitl [Hs]; · iexact Hs
  iexact Hp
theorem leave0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 (osem 0) c ∗ semVal (cell 0 c .bar) 0) := by
  rw [show (pdats m 0 c).Φ (Fin.last _) = iprop(ended 0 c ∗ Pipeline.scopedRest spec0 c ∗ ∃ r, prngReg c r) from rfl, none_held]
  unfold ended
  iintro ⟨⟨Hb, Ho⟩, Hs, Hp⟩
  isplitl [Hs]; · iexact Hs
  isplitl [Hp]; · iexact Hp
  isplitr; · iempintro
  isplitl [Ho]; · iexact Ho
  iexact Hb
theorem enter1 (c : Dev nD) : iprop(Pipeline.scopedRest (Pipeline.pin (pcfgs (F := F)) adm 1).spec c ∗ (∃ r, prngReg c r)
    ∗ StableHlo.held (c.tc : Thread nD τ) ∅ (V2 m (outs m) c) ∗ started m 1 c) ⊢ (pdats m 1 c).Φ 0 := by
  rw [show (pdats m 1 c).Φ 0 = iprop(started m 1 c ∗ Pipeline.scopedRest spec1 c ∗ ∃ r, prngReg c r) from rfl]
  iintro ⟨Hs, Hp, -, Ht⟩
  isplitl [Ht]; · iexact Ht
  isplitl [Hs]; · iexact Hs
  iexact Hp
theorem leave1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r)
      ∗ StableHlo.held (c.tc : Thread nD τ) ∅ (V3 m (outs m) c) ∗ Pipeline.ownSems0 (osem 1) c ∗ semVal (cell 1 c .bar) 0) := by
  rw [show (pdats m 1 c).Φ (Fin.last _) = iprop(ended 1 c ∗ Pipeline.scopedRest spec1 c ∗ ∃ r, prngReg c r) from rfl, none_held]
  unfold ended
  iintro ⟨⟨Hb, Ho⟩, Hs, Hp⟩
  isplitl [Hs]; · iexact Hs
  isplitl [Hp]; · iexact Hp
  isplitr; · iempintro
  isplitl [Ho]; · iexact Ho
  iexact Hb

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

theorem ownSem0 : Pipeline.OwnSemFacts spec0 (osem 0) := by decide +kernel
theorem ownSem1 : Pipeline.OwnSemFacts spec1 (osem 1) := by decide +kernel

theorem share0 (c : Dev nD) (w : Fin 6) : (dat0 m c).share w = fullShare := by
  unfold Dat.share; split <;> rfl
theorem share1 (c : Dev nD) (w : Fin 2) : (dat1 m c).share w = fullShare := by
  unfold Dat.share; split <;> rfl

local notation "ℝ" => Pipeline.RegionSeg (pcfgs (F := F)) adm (pdats m) () defs₀ 𝒱₀ L lv

set_option backward.isDefEq.respectTransparency.types false in
/-- The reduction, as a step. -/
def reg0 [∀ e, Nonempty (Elt F e)] : ℝ 0 :=
  Pipeline.RegionSeg.ofTalk (pcfgs (F := F)) adm (pdats m) () defs₀ 𝒱₀ L lv 0 (osem 0) ownSem0
    ∅ rest0 (Finset.empty_subset _) kit0 rfl (fun c => (body_first m c).loose)
    (later 0) (dues 0) (owed0_zero m) (owed0_last m) (fun _ => rfl) (share0 m)
    (V1 m) (V2 m (outs m)) (rest_same0 m)
    (dormant m 0) (fun c => semVal (cell 0 c .bar) 0) (started m 0) (fun c => semVal (cell 0 c .bar) 0)
    (start_talk m 0) (enter0 m) (leave0 m)
    (fun c => by iintro H; imodintro; iexact H)
    (fun _ => 0)
    ⟨fun c w s => by rw [L_tc]; exact Finset.mem_singleton_self _, fun c w s => le_of_eq (congrArg lvOf (staging0 w s)), fun c t g i h => owed_above h⟩
    (dormant m 1)
    (fun _ _ => rfl) (arrAt0 m)

set_option backward.isDefEq.respectTransparency.types false in
/-- The gather, as a step. -/
def reg1 [∀ e, Nonempty (Elt F e)] : ℝ 1 :=
  Pipeline.RegionSeg.ofTalk (pcfgs (F := F)) adm (pdats m) () defs₀ 𝒱₀ L lv 1 (osem 1) ownSem1
    ∅ rest1 (Finset.empty_subset _) kit1 rfl (fun c => (body_second m c).loose)
    (later 1) (dues 1) (owed1_zero m) (owed1_last m) (fun _ => rfl) (share1 m)
    (V2 m (outs m)) (V3 m (outs m)) (rest_same1 m)
    (dormant m 1) (fun c => semVal (cell 1 c .bar) 0) (started m 1) (fun c => semVal (cell 1 c .bar) 0)
    (start_talk m 1) (enter1 m) (leave1 m)
    (fun c => by iintro H; imodintro; iexact H)
    (fun _ => 0)
    ⟨fun c w s => by rw [L_tc]; exact Finset.mem_singleton_self _, fun c w s => le_of_eq (congrArg lvOf (staging1 w s)), fun c t g i h => owed_above h⟩
    (fun c => semVal (cell 0 c .bar) 0)
    (fun _ _ => rfl) (arrAt1 m)

/-! ## The states between the steps -/

theorem held_split (c : Dev nD) (A : Finset (DevRef τ sig)) (h : A ⊆ Pipeline.ucRefs τ sig) (W : Valuation τ sig (Elt F)) :
    (StableHlo.held (c.tc : Thread nD τ) (Pipeline.ucRefs τ sig) W : sProp 𝕄)
      = iprop(StableHlo.held (c.tc : Thread nD τ) A W ∗ StableHlo.held (c.tc : Thread nD τ) (Pipeline.ucRefs τ sig \ A) W) :=
  StableHlo.held_sub_split (c.tc : Thread nD τ) h W

theorem reg0_pre [∀ e, Nonempty (Elt F e)] (c : Dev nD) :
    iprop(StableHlo.held (c : Thread nD τ) (Pipeline.ucRefs τ sig) (V1 m c) ∗ E m 0 c) ⊢ (reg0 m).pre c := by
  show _ ⊢ iprop(StableHlo.held (c.tc : Thread nD τ) arrs0 (V1 m c) ∗ (∃ r, prngReg c r)
    ∗ (StableHlo.held (c.tc : Thread nD τ) rest0 (V1 m c) ∗ dormant m 1 c) ∗ dormant m 0 c ∗ ∃ Wd, owes (c : Thread nD τ) (later 0 c + dues 0 c) Wd)
  rw [held_split c arrs0 arrs0_sub]
  unfold E
  iintro ⟨⟨Ha, Hr⟩, Hp, H0, H1, HO⟩
  isplitl [Ha]; · iexact Ha
  isplitl [Hp]; · iexact Hp
  isplitl [Hr H1]
  · isplitl [Hr]; · iexact Hr
    iexact H1
  isplitl [H0]; · iexact H0
  iexact HO
theorem reg0_post [∀ e, Nonempty (Elt F e)] (c : Dev nD) :
    (reg0 m).post c ⊢ iprop(StableHlo.held (c : Thread nD τ) (Pipeline.ucRefs τ sig) (V2 m (outs m) c) ∗ E m 1 c) := by
  show iprop(StableHlo.held (c.tc : Thread nD τ) arrs0 (V2 m (outs m) c) ∗ (∃ r, prngReg c r)
    ∗ (StableHlo.held (c.tc : Thread nD τ) rest0 (V2 m (outs m) c) ∗ dormant m 1 c) ∗ semVal (cell 0 c .bar) 0 ∗ ∃ Wd, owes (c : Thread nD τ) (later 0 c) Wd) ⊢ _
  rw [held_split c arrs0 arrs0_sub]
  unfold E
  iintro ⟨Ha, Hp, ⟨Hr, H1⟩, H0, HO⟩
  isplitl [Ha Hr]
  · isplitl [Ha]; · iexact Ha
    iexact Hr
  isplitl [Hp]; · iexact Hp
  isplitl [H0]; · iexact H0
  isplitl [H1]; · iexact H1
  iexact HO
theorem reg1_pre [∀ e, Nonempty (Elt F e)] (c : Dev nD) :
    iprop(StableHlo.held (c : Thread nD τ) (Pipeline.ucRefs τ sig) (V2 m (outs m) c) ∗ E m 1 c) ⊢ (reg1 m).pre c := by
  show _ ⊢ iprop(StableHlo.held (c.tc : Thread nD τ) arrs1 (V2 m (outs m) c) ∗ (∃ r, prngReg c r)
    ∗ (StableHlo.held (c.tc : Thread nD τ) rest1 (V2 m (outs m) c) ∗ semVal (cell 0 c .bar) 0) ∗ dormant m 1 c
    ∗ ∃ Wd, owes (c : Thread nD τ) (later 1 c + dues 1 c) Wd)
  rw [held_split c arrs1 arrs1_sub, show later 1 c + dues 1 c = later 0 c from zero_add _]
  unfold E
  iintro ⟨⟨Ha, Hr⟩, Hp, H0, H1, HO⟩
  isplitl [Ha]; · iexact Ha
  isplitl [Hp]; · iexact Hp
  isplitl [Hr H0]
  · isplitl [Hr]; · iexact Hr
    iexact H0
  isplitl [H1]; · iexact H1
  iexact HO
theorem reg1_post [∀ e, Nonempty (Elt F e)] (c : Dev nD) :
    (reg1 m).post c ⊢ iprop(StableHlo.held (c : Thread nD τ) (Pipeline.ucRefs τ sig) (V3 m (outs m) c) ∗ E m 2 c) := by
  show iprop(StableHlo.held (c.tc : Thread nD τ) arrs1 (V3 m (outs m) c) ∗ (∃ r, prngReg c r)
    ∗ (StableHlo.held (c.tc : Thread nD τ) rest1 (V3 m (outs m) c) ∗ semVal (cell 0 c .bar) 0) ∗ semVal (cell 1 c .bar) 0
    ∗ ∃ Wd, owes (c : Thread nD τ) (later 1 c) Wd) ⊢ _
  rw [held_split c arrs1 arrs1_sub]
  unfold E
  iintro ⟨Ha, Hp, ⟨Hr, H0⟩, H1, HO⟩
  isplitl [Ha Hr]
  · isplitl [Ha]; · iexact Ha
    iexact Hr
  isplitl [Hp]; · iexact Hp
  isplitl [H0]; · iexact H0
  isplitl [H1]; · iexact H1
  iexact HO

end Cert.KernelIdeal.Own

end
-- ==== Proof.Deal.lean ====
/- The launch: the tokens of every duty and the credit of every arrival, dealt to the devices. -/
module

public import proofs.«01_k».proof.Proof.Segments

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Families over phases and devices -/

/-- A family over phases and devices, per device. -/
theorem per_device (Φ : Fin 2 → Dev nD → sProp 𝕄) :
    (bigSep Finset.univ fun x : Fin 2 × Dev nD => Φ x.1 x.2) = bigSep Finset.univ fun c : Dev nD => iprop(Φ 0 c ∗ Φ 1 c) := by
  rw [bigSep_univ_prod, BI.bigSep_fin_two, bigSep_sep']; rfl

/-- A family of families, the other way round. -/
theorem exchange {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]; rfl

/-! ## The tokens -/

/-- The barriers' tokens: a device's barrier takes one duty from each device. -/
def barToks : Finset (GSem nD τ sig × ℕ × Dev nD) :=
  Finset.univ.map ⟨fun x : (Fin 2 × Dev nD) × Dev nD => (cell x.1.1 x.1.2 .bar, 0, x.2), fun _ _ h => by
    have h1 := cell_inj (congrArg (fun t : GSem nD τ sig × ℕ × Dev nD => t.1) h)
    exact Prod.ext (Prod.ext h1.1 h1.2.1) (congrArg (fun t : GSem nD τ sig × ℕ × Dev nD => t.2.2) h)⟩
/-- The copies' tokens: every departure and every arrival takes one. -/
def copyToks : Finset (GSem nD τ sig × ℕ × Dev nD) :=
  Finset.univ.map ⟨fun x : (Fin 2 × Dev nD) × (Bool × Fin 31) => (cell x.1.1 x.1.2 (rl x.2.1 x.2.2.succ), 0, 0), fun _ _ h => by
    have h1 := cell_inj (congrArg (fun t : GSem nD τ sig × ℕ × Dev nD => t.1) h)
    have h2 := rl_inj h1.2.2
    exact Prod.ext (Prod.ext h1.1 h1.2.1) (Prod.ext h2.1 (Fin.succ_injective _ h2.2))⟩
def allToks : Finset (GSem nD τ sig × ℕ × Dev nD) := barToks ∪ copyToks

theorem disjoint_toks : Disjoint barToks copyToks := by
  unfold barToks copyToks
  rw [Finset.disjoint_left]
  intro g h1 h2
  obtain ⟨x, -, rfl⟩ := Finset.mem_map.mp h1
  obtain ⟨y, -, hy⟩ := Finset.mem_map.mp h2
  exact rl_ne_bar _ _ (cell_inj (show cell y.1.1 y.1.2 (rl y.2.1 y.2.2.succ) = cell x.1.1 x.1.2 .bar from
    congrArg (fun t : GSem nD τ sig × ℕ × Dev nD => t.1) hy)).2.2

/-- The tokens as they lie at the cells. -/
def lying (p : Fin 2) (c : Dev nD) : sProp 𝕄 :=
  iprop((bigSep Finset.univ fun d : Dev nD => dutyTok ER (cell p c .bar) 0 d)
    ∗ (bigSep Finset.univ fun o : Fin 31 => dutyTok ER (cell p c (.snd o.succ)) 0 0)
    ∗ bigSep Finset.univ fun o : Fin 31 => dutyTok ER (cell p c (.rcv o.succ)) 0 0)

theorem toks_lying : bigSep allToks (fun t => (dutyTok ER t.1 t.2.1 t.2.2 : sProp 𝕄))
    = bigSep Finset.univ fun x : Fin 2 × Dev nD => lying x.1 x.2 := by
  unfold allToks
  rw [BI.bigSep_union disjoint_toks]
  unfold barToks copyToks lying
  rw [BI.bigSep_map, BI.bigSep_map, bigSep_univ_prod (α := Fin 2 × Dev nD) (β := Dev nD), bigSep_sep']
  refine congrArg₂ (fun X Y : sProp 𝕄 => iprop(X ∗ Y)) rfl ?_
  rw [bigSep_univ_prod]
  refine bigSep_congr fun x _ => ?_
  rw [bigSep_univ_prod, family_bool]; rfl

/-- Turning by `o` is a permutation of the devices. -/
def turn (o : Fin 32) : Dev nD ≃ Dev nD := Equiv.addRight (o : Fin 32)

/-- The tokens of one phase, handed to the devices that pay with them. -/
theorem deal (p : Fin 2) : (bigSep Finset.univ fun c : Dev nD => (lying p c : sProp 𝕄)) = bigSep Finset.univ fun c : Dev nD => toks p c := by
  unfold lying toks
  simp only [bigSep_sep']
  rw [exchange (fun c d : Dev nD => (dutyTok ER (cell p c .bar) 0 d : sProp 𝕄)),
    exchange (fun (c : Dev nD) (o : Fin 31) => (dutyTok ER (cell p c (.rcv o.succ)) 0 0 : sProp 𝕄)),
    exchange (fun (c : Dev nD) (o : Fin 31) => (dutyTok ER (cell p (c + o.succ : Fin 32) (.rcv o.succ)) 0 0 : sProp 𝕄)),
    bigSep_congr (s := Finset.univ) fun (o : Fin 31) _ => bigSep_univ_equiv (turn o.succ) fun c : Dev nD => (dutyTok ER (cell p c (.rcv o.succ)) 0 0 : sProp 𝕄)]
  rfl

theorem dealt : (bigSep Finset.univ fun x : Fin 2 × Dev nD => (lying x.1 x.2 : sProp 𝕄))
    = bigSep Finset.univ fun c : Dev nD => iprop(toks 0 c ∗ toks 1 c) := by
  rw [bigSep_univ_prod, BI.bigSep_fin_two, deal, deal, bigSep_sep']; rfl

/-! ## The credit -/

/-- What device `c` owes at launch. -/
def O₀ (c : Dev nD) : CT := later 0 c + dues 0 c

theorem sends_bar (q : Fin 2) (d : Dev nD) (p : Fin 2) (c : Dev nD) : sends q d (cell p c .bar) () = 0 := by
  unfold sends
  rw [sum_apply]
  refine Finset.sum_eq_zero fun o _ => ?_
  rw [tallyAt_apply, if_neg]
  rintro ⟨h, -⟩
  exact absurd (cell_inj h).2.2 (by simp)
theorem signals_bar (q p : Fin 2) (c : Dev nD) : signals q (cell p c .bar) () = if p = q then 1 else 0 := by
  unfold signals
  rw [sum_apply]
  by_cases h : p = q
  · subst h
    rw [if_pos rfl, Finset.sum_eq_single c]
    · rw [tallyAt_apply, if_pos ⟨rfl, rfl⟩]
    · intro d _ hd
      rw [tallyAt_apply, if_neg]
      rintro ⟨h, -⟩
      exact hd (cell_inj h).2.1.symm
    · exact fun h => absurd (Finset.mem_univ _) h
  · rw [if_neg h]
    refine Finset.sum_eq_zero fun d _ => ?_
    rw [tallyAt_apply, if_neg]
    rintro ⟨h', -⟩
    exact h (cell_inj h').1
theorem signals_rcv (q p : Fin 2) (c : Dev nD) (o : Fin 32) : signals q (cell p c (.rcv o)) () = 0 := by
  unfold signals
  rw [sum_apply]
  refine Finset.sum_eq_zero fun d _ => ?_
  rw [tallyAt_apply, if_neg]
  rintro ⟨h, -⟩
  exact absurd (cell_inj h).2.2 (by simp)
theorem sends_rcv (q : Fin 2) (d : Dev nD) (p : Fin 2) (c : Dev nD) (o : Fin 31) :
    sends q d (cell p c (.rcv o.succ)) () = if p = q ∧ d = (c - o.succ : Fin 32) then N p o.succ else 0 := by
  unfold sends
  rw [sum_apply, Finset.sum_eq_single o]
  · rw [tallyAt_apply]
    by_cases h : p = q ∧ d = (c - o.succ : Fin 32)
    · obtain ⟨rfl, rfl⟩ := h
      rw [if_pos ⟨congrArg (fun e : Dev nD => cell p e (.rcv o.succ)) (sub_add_cancel (c : Fin 32) o.succ).symm, rfl⟩, if_pos (And.intro rfl rfl)]
    · rw [if_neg h, if_neg]
      rintro ⟨h', -⟩
      have := cell_inj h'
      exact h ⟨this.1, by rw [this.2.1]; exact (add_sub_cancel_right (d : Fin 32) o.succ).symm⟩
  · intro o' _ ho
    rw [tallyAt_apply, if_neg]
    rintro ⟨h', -⟩
    have h2 : (Role.rcv o.succ) = .rcv o'.succ := (cell_inj h').2.2
    exact ho (Fin.succ_injective _ (Role.rcv.inj h2)).symm
  · exact fun h => absurd (Finset.mem_univ _) h

theorem owed_at (d : Dev nD) (g : GSem nD τ sig) : O₀ d g () = (sends 1 d g () + signals 1 g ()) + (sends 0 d g () + signals 0 g ()) := rfl

theorem launch_bar (p : Fin 2) (c : Dev nD) :
    tallyOn (cell p c .bar) (launchCredit (Pipeline.owing O₀) 0 (cell p c .bar)) = (tallyAt (cell p c .bar) () 32 : CT) := by
  unfold tallyAt; refine congrArg _ (Finsupp.ext fun u => ?_); cases u
  rw [Pipeline.launchCredit_owing, Finsupp.single_eq_same]
  have h (d : Dev nD) : O₀ d (cell p c .bar) () = 1 := by
    rw [owed_at, sends_bar, sends_bar, signals_bar, signals_bar]
    fin_cases p <;> rfl
  rw [Finset.sum_congr rfl fun d _ => h d]
  rfl

theorem launch_rcv (p : Fin 2) (c : Dev nD) (o : Fin 31) :
    tallyOn (cell p c (.rcv o.succ)) (launchCredit (Pipeline.owing O₀) 0 (cell p c (.rcv o.succ))) = (tallyAt (cell p c (.rcv o.succ)) () (N p o.succ) : CT) := by
  unfold tallyAt; refine congrArg _ (Finsupp.ext fun u => ?_); cases u
  rw [Pipeline.launchCredit_owing, Finsupp.single_eq_same]
  have h (d : Dev nD) : O₀ d (cell p c (.rcv o.succ)) () = if d = (c - o.succ : Fin 32) then N p o.succ else 0 := by
    rw [owed_at, sends_rcv, sends_rcv, signals_rcv, signals_rcv]
    by_cases hd : d = (c - o.succ : Fin 32)
    · rw [if_pos hd]; fin_cases p <;> simp [hd]
    · rw [if_neg hd]; simp [hd]
  rw [Finset.sum_congr rfl fun d _ => h d, Finset.sum_ite_eq' Finset.univ (c - o.succ : Fin 32) fun _ => N p o.succ, if_pos (Finset.mem_univ _)]

/-- The credited semaphores of a device: each phase's barrier and arrivals. -/
def credSem : Fin 2 × Option (Fin 31) ↪ SemLoc sig :=
  ⟨fun x => semL x.1 (x.2.elim .bar fun o => .rcv o.succ), fun x y h => by
    obtain ⟨p, a⟩ := x
    obtain ⟨p', a'⟩ := y
    obtain ⟨h1, h2⟩ := semL_inj h
    refine Prod.ext h1 ?_
    cases a <;> cases a' <;> simp_all⟩

theorem credits (c : Dev nD) : (Pipeline.launchCred O₀ c : sProp 𝕄) ⊢ iprop(creds 0 c ∗ creds 1 c) := by
  have h : (bigSep (Finset.univ.map credSem) fun sm : SemLoc sig => (cred (tallyOn ((c.tc : Thread nD τ), sm)
      (launchCredit (Pipeline.owing O₀) 0 ((c.tc : Thread nD τ), sm))) : sProp 𝕄)) = iprop(creds 0 c ∗ creds 1 c) := by
    have hp (p : Fin 2) : (bigSep Finset.univ fun a : Option (Fin 31) => (cred (tallyOn (cell p c (a.elim .bar fun o => .rcv o.succ))
        (launchCredit (Pipeline.owing O₀) 0 (cell p c (a.elim .bar fun o => .rcv o.succ)))) : sProp 𝕄)) = creds p c := by
      unfold creds
      rw [bigSep_univ_equiv (finSuccEquiv 31), family_succ]
      refine congrArg₂ (fun X Y : sProp 𝕄 => iprop(X ∗ Y)) ?_ (bigSep_congr fun o _ => ?_)
      · rw [finSuccEquiv_zero]; exact congrArg cred (launch_bar p c)
      · rw [finSuccEquiv_succ]; exact congrArg cred (launch_rcv p c o)
    rw [BI.bigSep_map, bigSep_univ_prod, BI.bigSep_fin_two, ← hp 0, ← hp 1]; rfl
  unfold Pipeline.launchCred
  exact (BI.bigSep_subset (Finset.subset_univ (Finset.univ.map credSem))).trans (Entails.of_eq h)

end Cert.KernelIdeal.Own

end
-- ==== Proof.Launch.lean ====
/- The run of the whole program: from any memory with zero counters it terminates, its arguments end as they were, every
   counter ends at zero, and the result is the gathered chunks. -/
module

public import proofs.«01_k».proof.Proof.Deal

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The program as its steps -/

/-- The program's steps: the host lines before, the two calls, the host line after. -/
def steps [∀ e, Nonempty (Elt F e)] : List (Pipeline.Seg (pcfgs (F := F)) adm (pdats m) () defs₀ 𝒱₀ L lv) :=
  [.host (Gen.seg0 m 𝒱₀ L lv (E m)), .region (reg0 m), .region (reg1 m), .host (Gen.seg3 m (outs m) 𝒱₀ L lv (E m))]

theorem main_steps [∀ e, Nonempty (Elt F e)] (c : Dev nD) : main (F := F) c = Pipeline.Seg.run (steps m) :=
  main_segs adm (pdats m) () 𝒱₀ L lv (Gen.seg0 m 𝒱₀ L lv (E m)) (Gen.seg3 m (outs m) 𝒱₀ L lv (E m)) (reg0 m) (reg1 m) rfl rfl c

/-! ## The launch -/

def u₀ : UU :=
  (initOf (Pipeline.cells (Pipeline.pin (pcfgs (F := F)) adm) cellOf_inj) (Pipeline.launchToks (Pipeline.pin (pcfgs (F := F)) adm) cellOf_inj),
    launchOf barCells scCells allToks)

/-- A resource laid on one device. -/
def laidOn (c₀ : Dev nD) (X : sProp 𝕄) (c : Dev nD) : sProp 𝕄 := if c = c₀ then X else iprop(emp)
theorem laidOn_all (c₀ : Dev nD) (X : sProp 𝕄) : bigSep Finset.univ (laidOn c₀ X) = X := by
  rw [bigSep_univ_at _ c₀, bigSep_congr (s := Finset.univ.erase c₀) (Ψ := fun _ => (BI.emp : sProp 𝕄))
      fun c hc => by unfold laidOn; rw [if_neg (Finset.ne_of_mem_erase hc)]; rfl, BI.bigSep_emp_const]
  unfold laidOn; rw [if_pos rfl]
  exact BI.equiv_iff.mp sep_emp

/-- The talk's launch element, laid on device 0. -/
def G : Dev nD → sProp 𝕄 := laidOn 0 (BI.own (ER (launchOf barCells scCells allToks)))

/-- What of the talk's ghost state stays with device `c`. -/
def linear (c : Dev nD) : sProp 𝕄 :=
  iprop((atPos ER (cell 0 c .bar) 0 ∅ 0 ∗ atPos ER (cell 1 c .bar) 0 ∅ 0)
    ∗ ((bigSep Finset.univ fun k : Bool × Fin 32 => openTok ER (cell 0 c (rl k.1 k.2)))
      ∗ bigSep Finset.univ fun k : Bool × Fin 32 => openTok ER (cell 1 c (rl k.1 k.2)))
    ∗ (toks 0 c ∗ toks 1 c))
/-- What device `c` holds besides. -/
def bundle (c : Dev nD) : sProp 𝕄 :=
  iprop(StableHlo.held (c : Thread nD τ) (Pipeline.ucRefs τ sig) (V0 m c) ∗ (creds 0 c ∗ creds 1 c)
    ∗ owes (c : Thread nD τ) (O₀ c) ∅ ∗ ∃ r, prngReg c r)

/-- The state the program is entered in. -/
abbrev T₀ (c : Dev nD) : sProp 𝕄 := iprop(StableHlo.held (c : Thread nD τ) (Pipeline.ucRefs τ sig) (V0 m c) ∗ E m 0 c)
/-- The state it is left in. -/
abbrev Tₙ (c : Dev nD) : sProp 𝕄 :=
  iprop(StableHlo.held (c : Thread nD τ) (Pipeline.ucRefs τ sig) (V4 m (outs m) c) ∗ semVal (cell 0 c .bar) 0 ∗ semVal (cell 1 c .bar) 0)

theorem T₀_intro (κ : GSem nD τ sig → ℕ) (c : Dev nD) : iprop(records (SM m) κ ∗ (linear c ∗ bundle m c)) ⊢ T₀ m c := by
  unfold linear bundle T₀ E dormant
  iintro ⟨#HR, ⟨⟨Ha0, Ha1⟩, ⟨Ho0, Ho1⟩, ⟨Ht0, Ht1⟩⟩, Hh, ⟨Hc0, Hc1⟩, HO, Hp⟩
  isplitl [Hh]; · iexact Hh
  isplitl [Hp]; · iexact Hp
  isplitl [Ha0 Ho0 Ht0 Hc0]
  · iexists κ
    isplitr; · iexact HR
    isplitl [Ha0]; · iexact Ha0
    isplitl [Ho0]; · iexact Ho0
    isplitl [Ht0]; · iexact Ht0
    iexact Hc0
  isplitl [Ha1 Ho1 Ht1 Hc1]
  · iexists κ
    isplitr; · iexact HR
    isplitl [Ha1]; · iexact Ha1
    isplitl [Ho1]; · iexact Ho1
    isplitl [Ht1]; · iexact Ht1
    iexact Hc1
  iexists ∅; iexact HO

theorem unscoped_bars : (Finset.univ.filter fun sm : SemLoc sig => ¬ sm.isScoped .tc) = {semL 0 .bar, semL 1 .bar} := by decide
theorem unscoped_eq : ∀ sm : SemLoc sig, sm.isScoped .tc = false → sm = semL 0 .bar ∨ sm = semL 1 .bar := by decide

theorem unscopedSems0_eq (c : Dev nD) : (unscopedSems0 c : sProp 𝕄) = iprop(semVal (cell 0 c .bar) 0 ∗ semVal (cell 1 c .bar) 0) := by
  unfold unscopedSems0
  rw [unscoped_bars, bigSep_insert (by decide), bigSep_singleton]; rfl

/-- A device's share of the launch, regrouped. -/
theorem share (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ ((semVal (cell 0 c .bar) 0 ∗ semVal (cell 1 c .bar) 0) ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold bundle
  iintro ⟨Hh, Hus, HO, Hcr, Hp, HG⟩
  ihave Hc := (credits (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- A family over the barriers, per device. -/
theorem bars_per_device (Φ : GSem nD τ sig → sProp 𝕄) :
    bigSep barCells Φ = bigSep Finset.univ fun c : Dev nD => iprop(Φ (cell 0 c .bar) ∗ Φ (cell 1 c .bar)) := by
  unfold barCells; rw [BI.bigSep_map]
  exact per_device fun p c => Φ (cell p c .bar)

/-- A family over the copies' semaphores, per device. -/
theorem copies_per_device (Φ : GSem nD τ sig → sProp 𝕄) :
    bigSep scCells Φ = bigSep Finset.univ (fun c : Dev nD => iprop((bigSep Finset.univ fun k : Bool × Fin 32 => Φ (cell 0 c (rl k.1 k.2)))
        ∗ bigSep Finset.univ fun k : Bool × Fin 32 => Φ (cell 1 c (rl k.1 k.2)))) := by
  unfold scCells; rw [BI.bigSep_map, bigSep_univ_prod (α := Fin 2 × Dev nD) (β := Bool × Fin 32)]
  exact per_device fun p c => bigSep Finset.univ fun k : Bool × Fin 32 => Φ (cell p c (rl k.1 k.2))

/-- The ghost state the launch makes, dealt to the devices. -/
theorem linear_all : iprop(bigSep barCells (fun g => (atPos ER g 0 ∅ 0 : sProp 𝕄)) ∗ bigSep scCells (fun g => (openTok ER g : sProp 𝕄))
    ∗ bigSep allToks (fun t => (dutyTok ER t.1 t.2.1 t.2.2 : sProp 𝕄))) ⊢ bigSep Finset.univ fun c : Dev nD => linear c := by
  rw [bars_per_device, copies_per_device, toks_lying, dealt]
  unfold linear
  iintro ⟨Ha, Ho, Ht⟩
  iapply pairUp; isplitl [Ha]; · iexact Ha
  iapply pairUp; isplitl [Ho]; · iexact Ho
  iexact Ht

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ ((semVal (cell 0 c .bar) 0 ∗ semVal (cell 1 c .bar) 0) ∗ G c)) : sProp 𝕄) from
    bigSep_mono fun c _ => share m ρ c) $$ H
  ihave H2 := pairDown $$ H'; icases H2 with ⟨HB, H3⟩
  ihave H4 := pairDown $$ H3; icases H4 with ⟨Hv, HG⟩
  ihave Hu := (show bigSep Finset.univ (G (F := F)) ⊢ BI.own (ER (launchOf barCells scCells allToks)) from
    Entails.of_eq (laidOn_all (F := F) 0 (BI.own (ER (launchOf barCells scCells allToks))))) $$ HG
  imod (Rounds.fund_launch ER (Rd (SM m)) disjoint_cells (fun g _ h => h) allToks) $$ [Hv Hu] with ⟨%κ, -, #Hinv, #Hr, Hat, Hopen, Htok⟩
  · isplitl [Hv]
    · iapply (Entails.of_eq (bars_per_device fun g => (semVal g 0 : sProp 𝕄)).symm) $$ Hv
    · iexact Hu
  imodintro
  iapply (bigSep_with_persistent (R := records (SM m) κ) (Φ := fun c => iprop(linear c ∗ bundle m c)) fun c _ => T₀_intro m κ c)
  isplitr
  · unfold records
    isplitr; · iexact Hinv
    iexact Hr
  iapply pairUp
  isplitr [HB]
  · iapply (linear_all (F := F))
    isplitl [Hat]; · iexact Hat
    isplitl [Hopen]; · iexact Hopen
    iexact Htok
  · iexact HB

/-! ## The run -/

set_option backward.isDefEq.respectTransparency.types false in
/-- Every weakly fair execution from zero counters terminates; at the end every unscoped buffer holds what the last valuation
    says, and every counter is zero. -/
theorem run_main [∀ e, Nonempty (Elt F e)] : θ_run defs (onTc (τ := τ) (main (F := F))) ⟨m, fun _ => 0, ρ⟩
    (fun r => (∀ c : Dev nD, ∀ b ∈ Pipeline.ucRefs τ sig, r.2.mem ((c : Thread nD τ).1, b) = V4 m (outs m) c b) ∧ r.2.sem = fun _ => 0) :=
  Pipeline.θ_run_regions_kit_sems (pcfgs (F := F)) adm (pdats m) () cellOf_inj EP defs₀ 𝒱₀ L lv m ρ main (steps m)
    (fun c Q => by rw [main_steps m c])
    (by simp only [steps, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [laidOn_all]; iexact HX)
    (T₀ := T₀ m) (Tₙ := Tₙ m)
    (hch := by
      refine ⟨fun c => .rfl, fun c => reg0_pre m c, fun c => (reg0_post m c).trans (reg1_pre m c), fun c => reg1_post m c, fun c => ?_⟩
      show iprop(StableHlo.held (c : Thread nD τ) (Pipeline.ucRefs τ sig) (V4 m (outs m) c) ∗ E m 2 c)
        ⊢ iprop(Tₙ m c ∗ ∃ W, owes (c : Thread nD τ) (0 : CT) W)
      unfold E Tₙ
      iintro ⟨Hh, -, H0, H1, HO⟩
      isplitr [HO]
      · isplitl [Hh]; · iexact Hh
        isplitl [H0] <;> iassumption
      · iexact HO)
    (hinit := init m ρ)
    (QY := fun c s => (∀ b ∈ Pipeline.ucRefs τ sig, s.mem ((c : Thread nD τ).1, b) = V4 m (outs m) c b)
      ∧ s.sem (cell 0 c .bar) = 0 ∧ s.sem (cell 1 c .bar) = 0)
    (hfin := fun c s' => by
      dsimp only [Tₙ]
      iintro ⟨⟨Hh, H0, H1⟩, HSI⟩
      icombine HSI H0 gives %h0
      icombine HSI H1 gives %h1
      unfold StableHlo.held
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨h, by simpa using h0, by simpa using h1⟩
      iexact HSI)
    (hQ := fun s h hs => ⟨fun c => (h c).1,
      sem_eq_zero hs fun c sm hsm => by
        rcases unscoped_eq sm hsm with rfl | rfl
        · exact (h c).2.1
        · exact (h c).2.2⟩)

/-- The run, read at the arguments and the result. -/
theorem run_read [∀ e, Nonempty (Elt F e)] : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v6) = V4 m (outs m) c main_v6) ∧ r.2.sem = fun _ => 0) :=
  (θ_run defs _ _).mono (fun r h => ⟨fun c =>
    have at_ (b : Ref sig .tc) (hb : Proc.devRef .tc b ∈ Pipeline.ucRefs τ sig) : r.2.mem ((c : Thread nD τ).loc b) = V4 m (outs m) c b := h.1 c _ hb
    ⟨⟨(at_ main_arg0 (by decide)).trans (V4_main_arg0 m (outs m) c), (at_ main_arg1 (by decide)).trans (V4_main_arg1 m (outs m) c),
      (at_ main_arg2 (by decide)).trans (V4_main_arg2 m (outs m) c), (at_ main_arg3 (by decide)).trans (V4_main_arg3 m (outs m) c),
      (at_ main_arg4 (by decide)).trans (V4_main_arg4 m (outs m) c)⟩, at_ main_v6 (by decide)⟩, h.2⟩) (run_main m ρ)

end Cert.KernelIdeal.Own

end
-- ==== Proof.Frames.lean ====
/- The frames of the kernel, over bits and over extended reals. -/
module

public import proofs.«01_k».proof.Defs
public import proofs.«01_k».proof.Proof.Gen.Kernel
public import proofs.«01_k».proof.Proof.Launch

@[expose] public section

set_option maxRecDepth 16384

noncomputable section

namespace Cert.KernelIdeal.Own

open Idealize.ShloMosaic Idealize.ShloMosaic.TcCoe
open Idealize.SL.Sem
open Cert.KernelIdeal.Gen

/-- What a frame says of the final state `r`. -/
def Kept {F : FTy → Type} [FloatOps F] (m : (ℓ : Loc nD τ sig) → Buf (Elt F) ℓ) (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

/-- The program terminates with its arguments and counters as they were, whatever the floats are. -/
theorem frame_any {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ (Kept m) :=
  (θ_run defs _ _).mono (fun _ h => ⟨fun c => (h.1 c).1, h.2⟩) (run_read m ρ)

/-! The program over bits has the text of the program over extended reals, body for body. -/

theorem same_body0 : Cert.Kernel.cc0_body (F := Bits) = Cert.KernelIdeal.cc0_body := rfl
theorem same_body1 : Cert.Kernel.cc1_body (F := Bits) = Cert.KernelIdeal.cc1_body := rfl
theorem same_bodies : Cert.Kernel.defs₀ (F := Bits) = Cert.KernelIdeal.defs₀ := by
  unfold Cert.Kernel.defs₀ Cert.KernelIdeal.defs₀
  refine congrArg Defs.onTc ?_
  funext l a
  match l, a with
  | 0, a => rw [same_body0]
  | 1, a => rw [same_body1]
theorem same_defs : Cert.Kernel.defs (F := Bits) = Cert.KernelIdeal.defs := by
  unfold Cert.Kernel.defs
  rw [same_bodies]; rfl

/-- The kernel over bits. -/
theorem frame_bits : Cert.quiescent_Kernel := fun m ρ _ => by
  rw [same_defs]
  exact frame_any (F := Bits) m ρ

/-- The kernel over extended reals. -/
theorem frame_ideal : Cert.quiescent_KernelIdeal := fun m ρ _ => frame_any (F := Ideal) m ρ

end Cert.KernelIdeal.Own

end
-- ==== Proof.FrameRef.lean ====
/- The frame of the reference. -/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.Own

open Idealize.ShloMosaic Idealize.ShloMosaic.TcCoe
open Idealize.SL.Sem
open Cert.ReferenceIdeal.Gen

/-- The reference terminates with its arguments as they were; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.ReferenceIdeal.Own

end
-- ==== Proof.Spec.lean ====
/- What the programs compute, written plainly over the extended reals: block-sparse attention and its output projection. -/
module

public import Idealize.ShloMosaic.PureOps.Ideal
public import Idealize.ShloMosaic.Lib.Pointwise

@[expose] public section

noncomputable section

namespace Cert.Spec

open Idealize.ShloMosaic

/-- Query row `i` reads key column `J`: the same block of 64, the first block, or blocks whose numbers sum to a multiple of three. -/
def keep (i : Fin 512) (J : Fin 16384) : Prop := i.val / 64 = J.val / 64 ∨ J.val / 64 = 0 ∨ (i.val / 64 + J.val / 64) % 3 = 0

instance (i : Fin 512) (J : Fin 16384) : Decidable (keep i J) := by unfold keep; infer_instance

/-- Every row reads the first column. -/
theorem keep_first (i : Fin 512) : keep i 0 := Or.inr (Or.inl (by decide))

variable (x : (⟨3, ![2, 512, 768]⟩ : Shape).Idx → EReal) (wq : (⟨2, ![768, 512]⟩ : Shape).Idx → EReal)
  (k v : (⟨4, ![2, 16384, 8, 64]⟩ : Shape).Idx → EReal) (wo : (⟨2, ![512, 768]⟩ : Shape).Idx → EReal)

/-- Column `h * 64 + d` of the heads side by side. -/
abbrev col (h : Fin 8) (d : Fin 64) : Fin 512 := ⟨h.val * 64 + d.val, by omega⟩
/-- Column `J` of device `c` among all columns. -/
abbrev key (c : Fin 32) (j : Fin 512) : Fin 16384 := ⟨c.val * 512 + j.val, by omega⟩

/-- The score of query row `i` and key column `J` in head `h` of batch `b`. -/
def score (b : Fin 2) (h : Fin 8) (i : Fin 512) (J : Fin 16384) : EReal :=
  (∑ d : Fin 64, (∑ e : Fin 768, x (ix3 b i e) * wq (ix2 e (col h d))) * k (ix4 b J h d)) * Ideal.ofBits .f32 0x3E000000#32

/-- Its exponential, where the column is read. -/
def weight (b : Fin 2) (h : Fin 8) (i : Fin 512) (J : Fin 16384) : EReal :=
  if keep i J then Ideal.exp (score x wq k b h i J) else 0

/-- The weighted mean of the values. -/
def attn (b : Fin 2) (h : Fin 8) (i : Fin 512) (d : Fin 64) : EReal :=
  Ideal.div (∑ J, weight x wq k b h i J * v (ix4 b J h d)) (∑ J, weight x wq k b h i J)

/-- The heads side by side times the output matrix. -/
def out (b : Fin 2) (i : Fin 512) (n : Fin 768) : EReal := ∑ h : Fin 8, ∑ d : Fin 64, attn x wq k v b h i d * wo (ix2 (col h d) n)

/-- A sum over all columns is the sum over the devices of the sums over their columns. -/
theorem sum_keys (f : Fin 16384 → EReal) : ∑ c : Fin 32, ∑ j : Fin 512, f (key c j) = ∑ J, f J :=
  (Fin.sum_univ_tiles 32 512 rfl f).symm

end Cert.Spec

end
-- ==== Proof.Weights.lean ====
/- The first call's products at the ideal floats: a device's masked exponentials, their products with its values, their row sums. -/
module

public import proofs.«01_k».proof.Proof.Run0
public import proofs.«01_k».proof.Proof.Spec

@[expose] public section

set_option maxRecDepth 16384

noncomputable section

namespace Cert.KernelIdeal.Own

open Idealize.ShloMosaic Idealize.ShloMosaic.TcCoe
open Cert.KernelIdeal.Gen
open Cert.Spec

/-! ## The mask -/

abbrev qIota : IVec S512x512 32 := iota .tc S512x512 32 [0] iota_S512x512_d0_w32
abbrev kIota : IVec S512x512 32 := iota .tc S512x512 32 [1] iota_S512x512_d1_w32
abbrev meWord (d : Dev nD) : BitVec 32 := Scalar.remsi (Scalar.divsi (Dev.word d) 1#32) 32#32

/-- The word of a query row's block. -/
theorem row_word (i j : Fin 512) : k0_pay3 qIota 64#32 k0_pay1 k0_pay2 (ix2 i j) = BitVec.ofNat 32 (i.val / 64) := by
  pointwise [k0_pay3, k0_pay1, k0_pay2]
  clear j
  revert i
  decide +kernel

/-- The word of a key column's block. -/
theorem col_word (d : Dev nD) (i j : Fin 512) : k0_pay4 (meWord d) kIota (ix2 i j) = BitVec.ofNat 32 ((key d j).val / 64) := by
  pointwise [k0_pay4]
  clear i
  revert d j
  decide +kernel

/-- The mask's word from the words of two blocks. -/
def keepWord (a b : BitVec 32) : BitVec 1 :=
  IntOp.ori (IntOp.ori (IntOp.cmpi .eq a b) (IntOp.cmpi .eq b 0#32)) (IntOp.cmpi .eq (IntOp.remsi .vector (IntOp.addi a b) 3#32) 0#32)

theorem keepWord_eq : ∀ (a : Fin 8) (b : Fin 256), keepWord (BitVec.ofNat 32 a.val) (BitVec.ofNat 32 b.val)
    = BitVec.ofBool (decide (a.val = b.val ∨ b.val = 0 ∨ (a.val + b.val) % 3 = 0)) := by decide +kernel

theorem mask_at (d : Dev nD) (i j : Fin 512) : maskV d (ix2 i j) = BitVec.ofBool (decide (keep i (key d j))) := by
  refine Eq.trans ?_ (keepWord_eq ⟨i.val / 64, by omega⟩ ⟨(key d j).val / 64, by have := (key d j).isLt; omega⟩)
  rw [← row_word i j, ← col_word d i j]
  pointwise [maskV, k0_pay7, k0_pay5, k0_pay6, keepWord]

/-! ## The products -/

variable (d : Dev nD) (I : Ins Ideal)
  (x : (⟨3, ![2, 512, 768]⟩ : Shape).Idx → EReal) (wq : (⟨2, ![768, 512]⟩ : Shape).Idx → EReal)
  (k v : (⟨4, ![2, 16384, 8, 64]⟩ : Shape).Idx → EReal) (wo : (⟨2, ![512, 768]⟩ : Shape).Idx → EReal)

/-- Row `i` of batch `b`. -/
abbrev row (b : Fin 2) (i : Fin 512) : Fin 1024 := ⟨b.val * 512 + i.val, by omega⟩

/-- Device `d`'s windows hold these arrays: the keys and the values its block of columns. -/
structure Holds : Prop where
  x : ∀ b i e, I.x (ix2 (row b i) e) = x (ix3 b i e)
  wq : ∀ e n, I.wq (ix2 e n) = wq (ix2 e n)
  k : ∀ b j h e, I.k (ix2 (row b j) (col h e)) = k (ix4 b (key d j) h e)
  v : ∀ b j h e, I.v (ix2 (row b j) (col h e)) = v (ix4 b (key d j) h e)
  wo : ∀ e n, I.wo (ix2 e n) = wo (ix2 e n)

variable {d I x wq k v wo} (H : Holds d I x wq k v wo)
include H

theorem wgt_at (b : Fin 2) (h : Fin 8) (i j : Fin 512) : headW d I b h (ix2 i j) = weight x wq k b h i (key d j) := by
  pointwise [headW, wgtV, k0_pay8, xV, wqV, kvV]
  rw [mask_at]
  have e : (∑ u : Fin 64, (∑ w : Fin 768, I.x ((Rect.unit (s := S1024x768) ![512 * b.val, 0] S512x768.size (inbX b)).emb (ix2 i w)) *
        I.wq ((Rect.unit (s := S768x512) ![0, 0] S768x512.size inb_S768x512_S768x512_0_0).emb (ix2 w ⟨64 * h.val + u.val, by omega⟩))) *
        I.k ((Rect.unit (s := S1024x512) ![512 * b.val, 64 * h.val] S512x64.size (inbKV b h)).emb (ix2 j u))) * Ideal.ofBits .f32 0x3E000000#32
      = score x wq k b h i (key d j) := by
    unfold score
    refine congrArg (· * _) (Finset.sum_congr rfl fun u _ => ?_)
    refine congrArg₂ (· * ·) (Finset.sum_congr rfl fun w _ => congrArg₂ (· * ·) ?_ ?_) ?_
    · rw [← H.x]
      exact congrArg I.x (ext2 (by show 512 * b.val + 1 * i.val = b.val * 512 + i.val; omega) (by show 0 + 1 * w.val = w.val; omega))
    · rw [← H.wq]
      exact congrArg I.wq (ext2 (by show 0 + 1 * w.val = w.val; omega) (by show 0 + 1 * (64 * h.val + u.val) = h.val * 64 + u.val; omega))
    · rw [← H.k]
      exact congrArg I.k (ext2 (by show 512 * b.val + 1 * j.val = b.val * 512 + j.val; omega) (by show 64 * h.val + 1 * u.val = h.val * 64 + u.val; omega))
  unfold weight
  rw [← e]
  by_cases hk : keep i (key d j)
  · rw [if_pos hk, decide_eq_true hk]; rfl
  · rw [if_neg hk, decide_eq_false hk]; rfl

theorem ctx_at (b : Fin 2) (h : Fin 8) (i : Fin 512) (e : Fin 64) :
    headC d I b h (ix2 i e) = ∑ j : Fin 512, weight x wq k b h i (key d j) * v (ix4 b (key d j) h e) := by
  pointwise [headC, ctxV, kvV]
  refine Finset.sum_congr rfl fun j _ => congrArg₂ (· * ·) (wgt_at H b h i j) ?_
  rw [← H.v]
  exact congrArg I.v (ext2 (by show 512 * b.val + 1 * j.val = b.val * 512 + j.val; omega) (by show 64 * h.val + 1 * e.val = h.val * 64 + e.val; omega))

theorem sum_at (b : Fin 2) (h : Fin 8) (i : Fin 512) :
    headS d I b h (ix2 i 0) = ∑ j : Fin 512, weight x wq k b h i (key d j) := by
  pointwise [headS, sumV]
  exact Finset.sum_congr rfl fun j _ => wgt_at H b h i j

end Cert.KernelIdeal.Own

end
-- ==== Proof.Chunk.lean ====
/- The two calls' results at the ideal floats: a device's chunk and the gathered rows are the attention's output, row by row. -/
module

public import proofs.«01_k».proof.Proof.Weights
public import proofs.«01_k».proof.Proof.Fold0

@[expose] public section

set_option maxRecDepth 16384

noncomputable section

namespace Cert.KernelIdeal.Own

open Idealize.ShloMosaic Idealize.ShloMosaic.TcCoe
open Cert.KernelIdeal.Gen
open Cert.Spec

/-! ## The combined buffer -/

/-- Head `h`'s columns of the combined buffer hold its products. -/
theorem comb_ctx (d : Dev nD) (I : Ins Ideal) (b : Fin 2) (h : Fin 8) (i : Fin 512) (e : Fin 64) :
    combV d I (ix2 (row b i) ⟨64 * h.val + e.val, by omega⟩) = headC d I b h (ix2 i e) := by
  unfold combV
  refine (dif_pos (show 64 * h.val + e.val < 512 by omega)).trans ?_
  have e0 : (⟨(row b i).val / 512, by have := (row b i).isLt; omega⟩ : Fin 2) = b := Fin.ext (by show (b.val * 512 + i.val) / 512 = b.val; omega)
  have e1 : (⟨(64 * h.val + e.val) / 64, by omega⟩ : Fin 8) = h := Fin.ext (by show (64 * h.val + e.val) / 64 = h.val; omega)
  show headC d I ⟨(row b i).val / 512, _⟩ ⟨(64 * h.val + e.val) / 64, _⟩ _ = _
  rw [e0, e1]
  exact congrArg _ (ext2 (by show (b.val * 512 + i.val) % 512 = i.val; omega) (by show (64 * h.val + e.val) % 64 = e.val; omega))

/-- The eight row sums side by side, read at head `h`. -/
theorem sums_at (l : Fin 8 → FVec Ideal S512x1 .f32) (i : Fin 512) (h : Fin 8) : sumsV l (ix2 i h) = l h (ix2 i 0) := by
  pointwise [sumsV]
  fin_vals h with hk
  all_goals (simp only [hk, Nat.reduceSub, Nat.reduceLT, ↓reduceDIte]; exact congrArg (fun t => l t (ix2 i 0)) (Fin.ext hk.symm))

theorem comb_sum (d : Dev nD) (I : Ins Ideal) (b : Fin 2) (h : Fin 8) (i : Fin 512) :
    combV d I (ix2 (row b i) ⟨512 + h.val, by omega⟩) = headS d I b h (ix2 i 0) := by
  unfold combV
  refine (dif_neg (show ¬ 512 + h.val < 512 by omega)).trans ((dif_pos (show 512 + h.val < 520 by omega)).trans ?_)
  have e0 : (⟨(row b i).val / 512, by have := (row b i).isLt; omega⟩ : Fin 2) = b := Fin.ext (by show (b.val * 512 + i.val) / 512 = b.val; omega)
  show sumsV (headS d I ⟨(row b i).val / 512, _⟩) _ = _
  rw [e0, ← sums_at (headS d I b) i h]
  exact congrArg _ (ext2 (by show (b.val * 512 + i.val) % 512 = i.val; omega) (by show 512 + h.val - 512 = h.val; omega))

/-! ## The sum over the devices -/

theorem acc_at (n : ℕ) (y : S32x640.Idx) : ∀ (a : FVec Ideal S32x640 .f32) (r : Fin n → FVec Ideal S32x640 .bf16),
    (accV n a r y : EReal) = (a y : EReal) + ∑ o, (r o y : EReal) := by
  induction n with
  | zero => intro a r; rw [Fin.sum_univ_zero, add_zero]; rfl
  | succ n ih =>
    intro a r
    rw [Fin.sum_univ_succ, ← add_assoc]
    exact ih _ _

variable (Is : Dev nD → Ins Ideal)

/-- Row `i` of batch `b` among device `c`'s rows. -/
abbrev mine (c : Fin 32) (i : Fin 16) : Fin 512 := ⟨c.val * 16 + i.val, by omega⟩

/-- Equal numbers are the same position of the same block. -/
theorem at_eq {n m k : ℕ} (p : Fin n → (⟨2, ![m, k]⟩ : Shape).Idx → EReal) {a h : Fin n} {i i' : Fin m} {q q' : Fin k}
    (ha : a.val = h.val) (hi : i.val = i'.val) (hq : q.val = q'.val) : p a (ix2 i q) = p h (ix2 i' q') := by
  rw [Fin.ext ha, Fin.ext hi, Fin.ext hq]

/-- Two blocks of 16 rows, one under the other, read at row `i` of block `b`. -/
theorem pair_at (p : Fin 2 → FVec Ideal S16x640 .f32) (b : Fin 2) (i : Fin 16) (q : Fin 640) :
    concatenate S32x640 0 [⟨S16x640, p 0⟩, ⟨S16x640, p 1⟩] concatenates_S16x640_S16x640_S32x640_d0 (ix2 ⟨16 * b.val + i.val, by omega⟩ q)
      = p b (ix2 i q) := by
  pointwise
  fin_vals b with hb
  all_goals
    simp only [hb]
    first | rw [dif_pos (by omega)] | rw [dif_neg (by omega)]
    exact at_eq p hb.symm (by simp only; omega) rfl

theorem rows_at (cm : S1024x640.Idx → EReal) (c : Fin 32) (b : Fin 2) (i : Fin 16) (q : Fin 640) :
    rowsOf (F := Ideal) cm c b (ix2 i q) = cm (ix2 (row b (mine c i)) q) := by
  unfold rowsOf
  exact congrArg cm (ext2 (by show 512 * b.val + 16 * c.val + i.val = b.val * 512 + (c.val * 16 + i.val); omega) rfl)

theorem blk0_at (c : Dev nD) (o : Fin 32) (b : Fin 2) (i : Fin 16) (q : Fin 640) :
    blk0 Is c o (ix2 ⟨16 * b.val + i.val, by omega⟩ q) = combV (c - o : Fin 32) (Is (c - o : Fin 32)) (ix2 (row b (mine c i)) q) := by
  show sendV _ _ _ = _
  generalize combV (c - o : Fin 32) (Is (c - o : Fin 32)) = cm
  unfold sendV
  pointwise [k0_pay69]
  rw [← rows_at cm c b i q]
  refine congrArg₂ (rowsOf (F := Ideal) cm c) (Fin.ext ?_) (ext2 ?_ rfl)
  · show (16 * b.val + i.val) / 16 = b.val; omega
  · show (16 * b.val + i.val) % 16 = i.val; omega

/-- Device `c`'s rows are summed over all the devices. -/
theorem red_at (c : Dev nD) (b : Fin 2) (i : Fin 16) (q : Fin 640) :
    redC Is c (ix2 ⟨16 * b.val + i.val, by omega⟩ q)
      = ∑ d : Fin 32, (show EReal from combV d (Is d) (ix2 (row b (mine c i)) q)) := by
  have hsum := (Equiv.subLeft (c : Fin 32)).sum_comp fun d : Fin 32 => (show EReal from combV d (Is d) (ix2 (row b (mine c i)) q))
  rw [← hsum, Fin.sum_univ_succ]
  unfold redC redV
  rw [acc_at]
  refine congrArg₂ (· + ·) ?_ (Finset.sum_congr rfl fun o _ => blk0_at Is c o.succ b i q)
  refine (pair_at (fun b => rowsOf (combV c (Is c)) c b) b i q).trans ((rows_at _ c b i q).trans ?_)
  show _ = combV (c - 0 : Fin 32) (Is (c - 0 : Fin 32)) _
  rw [sub_zero]

/-! ## The chunk -/

theorem quot_at (red : FVec Ideal S32x640 .f32) (b : Fin 2) (h : Fin 8) (i : Fin 16) (e : Fin 64) :
    quotV red b h (ix2 i e) = Ideal.div (red (ix2 ⟨16 * b.val + i.val, by omega⟩ ⟨64 * h.val + e.val, by omega⟩))
      (red (ix2 ⟨16 * b.val + i.val, by omega⟩ ⟨512 + h.val, by omega⟩)) := by
  pointwise [quotV]

/-- Eight blocks of 64 columns side by side, read at column `e` of block `h`. -/
theorem heads_at (p : Fin 8 → FVec Ideal S16x64 .f32) (i : Fin 16) (h : Fin 8) (e : Fin 64) :
    concatenate S16x512 1 [⟨S16x64, p 0⟩, ⟨S16x64, p 1⟩, ⟨S16x64, p 2⟩, ⟨S16x64, p 3⟩, ⟨S16x64, p 4⟩, ⟨S16x64, p 5⟩, ⟨S16x64, p 6⟩, ⟨S16x64, p 7⟩]
        concatenates_S16x64_S16x64_S16x64_S16x64_S16x64_S16x64_S16x64_S16x64_S16x512_d1 (ix2 i (col h e)) = p h (ix2 i e) := by
  pointwise
  fin_vals h with hk
  all_goals
    simp only [hk]
    repeat (first | rw [dif_pos (by omega)] | rw [dif_neg (by omega)])
    exact at_eq p hk.symm rfl (by simp only; omega)

theorem chunk_at (red : FVec Ideal S32x640 .f32) (b : Fin 2) (wo : Vec Ideal S512x768 .f32) (i : Fin 16) (n : Fin 768) :
    chunkV red b wo (ix2 i n)
      = ∑ h : Fin 8, ∑ e : Fin 64, (show EReal from quotV red b h (ix2 i e)) * (show EReal from wo (ix2 (col h e) n)) := by
  unfold chunkV
  generalize hc : concatenate S16x512 1 _ _ = X
  pointwise
  refine (Fin.sum_univ_tiles 8 64 rfl _).trans (Finset.sum_congr rfl fun h _ => Finset.sum_congr rfl fun e _ => ?_)
  rw [← hc]
  exact congrArg (· * _) (heads_at (fun h => quotV red b h) i h e)

end Cert.KernelIdeal.Own

end
-- ==== Proof.Gathered.lean ====
/- The two calls' results at the ideal floats, from the arrays: each row of the gathered result is the attention's output. -/
module

public import proofs.«01_k».proof.Proof.Chunk
public import proofs.«01_k».proof.Proof.Run1

@[expose] public section

set_option maxRecDepth 16384

noncomputable section

namespace Cert.KernelIdeal.Own

open Idealize.ShloMosaic Idealize.ShloMosaic.TcCoe
open Cert.KernelIdeal.Gen
open Cert.Spec

variable {Is : Dev nD → Ins Ideal}
  {x : (⟨3, ![2, 512, 768]⟩ : Shape).Idx → EReal} {wq : (⟨2, ![768, 512]⟩ : Shape).Idx → EReal}
  {k v : (⟨4, ![2, 16384, 8, 64]⟩ : Shape).Idx → EReal} {wo : (⟨2, ![512, 768]⟩ : Shape).Idx → EReal}

theorem outV_at (red : FVec Ideal S32x640 .f32) (w : Vec Ideal S512x768 .f32) (b : Fin 2) (i : Fin 16) (n : Fin 768) :
    (outV red w (ix2 ⟨16 * b.val + i.val, by omega⟩ n) : EReal) = chunkV red b w (ix2 i n) := by
  unfold outV
  exact at_eq (fun b => chunkV red b w) (show (16 * b.val + i.val) / 16 = b.val by omega) (show (16 * b.val + i.val) % 16 = i.val by omega) rfl

theorem woV_at (I : Ins Ideal) (e : Fin 512) (n : Fin 768) : woV I (ix2 e n) = I.wo (ix2 e n) := by
  unfold woV
  exact congrArg I.wo (ext2 (by show 0 + 1 * e.val = e.val; omega) (by show 0 + 1 * n.val = n.val; omega))

variable (H : ∀ d : Fin 32, Holds d (Is d) x wq k v wo)
include H

/-- The sums over the devices are the sums over all columns. -/
theorem red_ctx (c : Fin 32) (b : Fin 2) (h : Fin 8) (i : Fin 16) (e : Fin 64) :
    (redC Is c (ix2 ⟨16 * b.val + i.val, by omega⟩ ⟨64 * h.val + e.val, by omega⟩) : EReal)
      = ∑ J, weight x wq k b h (mine c i) J * v (ix4 b J h e) := by
  rw [red_at, ← sum_keys]
  exact Finset.sum_congr rfl fun d _ => (comb_ctx d (Is d) b h (mine c i) e).trans (ctx_at (H d) b h (mine c i) e)

theorem red_sum (c : Fin 32) (b : Fin 2) (h : Fin 8) (i : Fin 16) :
    (redC Is c (ix2 ⟨16 * b.val + i.val, by omega⟩ ⟨512 + h.val, by omega⟩) : EReal) = ∑ J, weight x wq k b h (mine c i) J := by
  rw [red_at, ← sum_keys]
  exact Finset.sum_congr rfl fun d _ => (comb_sum d (Is d) b h (mine c i)).trans (sum_at (H d) b h (mine c i))

/-- Device `c`'s chunk holds its rows of the output. -/
theorem chunk_out (c : Fin 32) (b : Fin 2) (i : Fin 16) (n : Fin 768) :
    (chunkC Is c (ix2 ⟨16 * b.val + i.val, by omega⟩ n) : EReal) = out x wq k v wo b (mine c i) n := by
  have hc := fun (h : Fin 8) (e : Fin 64) => red_ctx H c b h i e
  have hs := fun h : Fin 8 => red_sum H c b h i
  unfold chunkC
  generalize redC Is c = red at hc hs ⊢
  rw [outV_at, chunk_at]
  unfold out attn
  refine Finset.sum_congr rfl fun h _ => Finset.sum_congr rfl fun e _ => congrArg₂ (fun a b : EReal => a * b) ?_ ?_
  · exact (quot_at red b h i e).trans (congrArg₂ Ideal.div (hc h e) (hs h))
  · exact (woV_at (Is c) (col h e) n).trans ((H c).wo (col h e) n)

/-- The gathered rows are the output's. -/
theorem gathered_out (b : Fin 2) (i : Fin 512) (n : Fin 768) :
    (gathered (chunkC Is) (ix2 (row b i) n) : EReal) = out x wq k v wo b i n := by
  have hr : mine ⟨i.val / 16, by omega⟩ ⟨i.val % 16, by omega⟩ = i := Fin.ext (by show i.val / 16 * 16 + i.val % 16 = i.val; omega)
  rw [← hr, ← chunk_out H ⟨i.val / 16, by omega⟩ b ⟨i.val % 16, by omega⟩ n]
  generalize chunkC Is = oc
  unfold gathered partV sentV
  pointwise [k1_pay39, k1_pay1]
  refine congrArg₂ oc (Fin.ext ?_) (ext2 ?_ ?_)
  · simp only; omega
  · show 0 + 1 * (16 * ((b.val * 512 + (i.val / 16 * 16 + i.val % 16)) / 512) + (b.val * 512 + (i.val / 16 * 16 + i.val % 16)) % 16) = 16 * b.val + i.val % 16
    omega
  · show 0 + 1 * n.val = n.val
    omega

end Cert.KernelIdeal.Own

end
-- ==== Proof.Held.lean ====
/- What the first call's windows hold, from the arguments: reshaped copies, and blocks of the keys and values. -/
module

public import proofs.«01_k».proof.Proof.Gathered
public import proofs.«01_k».proof.Proof.Data
public import Idealize.ShloMosaic.Lib.Layout

@[expose] public section

set_option maxRecDepth 16384

noncomputable section

namespace Cert.KernelIdeal.Own

open Idealize.ShloMosaic Idealize.ShloMosaic.TcCoe
open Cert.KernelIdeal.Gen
open Cert.Spec

variable (m : (ℓ : Loc nD τ sig) → Buf (Elt Ideal) ℓ) (c : Dev nD)

theorem in_x : V1 m c main_v1 = shapeCast S1024x768 (m ((c : Thread nD τ).loc main_arg0)) shapeCasts_S2x512x768_S1024x768 := by
  simp only [V1, hostOps0]
  after_results_simp <;> rfl

theorem in_k : V1 m c main_v2 = shapeCast S1024x512 (m ((c : Thread nD τ).loc main_arg2)) shapeCasts_S2x512x8x64_S1024x512 := by
  simp only [V1, hostOps0]
  after_results_simp <;> rfl

theorem in_v : V1 m c main_v3 = shapeCast S1024x512 (m ((c : Thread nD τ).loc main_arg3)) shapeCasts_S2x512x8x64_S1024x512 := by
  simp only [V1, hostOps0]
  after_results_simp <;> rfl

theorem in_wq : V1 m c main_arg1 = m ((c : Thread nD τ).loc main_arg1) := V1_of m c main_arg1 (by decide)
theorem in_wo : V1 m c main_arg4 = m ((c : Thread nD τ).loc main_arg4) := V1_of m c main_arg4 (by decide)

/-- The returned array is the gathered one, reshaped. -/
theorem out_v6 : V4 m (outs m) c main_v6 = shapeCast S2x512x768 (resultM m) shapeCasts_S1024x768_S2x512x768 := by
  have h5 : V3 m (outs m) c main_v5 = resultM m := (Function.update_self _ _ _).trans (outs_v5 m 3 c)
  rw [← h5]
  simp only [V4, hostOps2]
  after_results_simp <;> rfl

theorem at3 (X : S2x512x768.Idx → EReal) {b b' : Fin 2} {i i' : Fin 512} (e : Fin 768) (hb : b.val = b'.val) (hi : i.val = i'.val) :
    X (ix3 b i e) = X (ix3 b' i' e) := by
  rw [Fin.ext hb, Fin.ext hi]

theorem at4 (X : S2x512x8x64.Idx → EReal) {b b' : Fin 2} {i i' : Fin 512} {h h' : Fin 8} {e e' : Fin 64}
    (hb : b.val = b'.val) (hi : i.val = i'.val) (hh : h.val = h'.val) (he : e.val = e'.val) : X (ix4 b i h e) = X (ix4 b' i' h' e') := by
  rw [Fin.ext hb, Fin.ext hi, Fin.ext hh, Fin.ext he]

/-- Three axes with the first two merged. -/
theorem merge3_at (X : FVec Ideal S2x512x768 .f32) (b : Fin 2) (i : Fin 512) (e : Fin 768) :
    (shapeCast S1024x768 X shapeCasts_S2x512x768_S1024x768 (ix2 (row b i) e) : EReal) = X (ix3 b i e) := by
  pointwise
  exact at3 X e (by simp only; omega) (by simp only; omega)

/-- And split again. -/
theorem split3_at (X : FVec Ideal S1024x768 .f32) (b : Fin 2) (i : Fin 512) (e : Fin 768) :
    (shapeCast S2x512x768 X shapeCasts_S1024x768_S2x512x768 (ix3 b i e) : EReal) = X (ix2 (row b i) e) := by
  pointwise

/-- Four axes with the first two and the last two merged. -/
theorem merge4_at (X : FVec Ideal S2x512x8x64 .f32) (b : Fin 2) (j : Fin 512) (h : Fin 8) (e : Fin 64) :
    (shapeCast S1024x512 X shapeCasts_S2x512x8x64_S1024x512 (ix2 (row b j) (col h e)) : EReal) = X (ix4 b j h e) := by
  pointwise
  exact at4 X (by simp only; omega) (by simp only; omega) (by simp only; omega) (by simp only; omega)

/-- Device `c`'s block at an index. -/
theorem block_at (Y : (⟨4, ![2, 16384, 8, 64]⟩ : Shape).Idx → EReal) (b : Fin 2) (j : Fin 512) (h : Fin 8) (e : Fin 64) :
    Layout.block ⟨4, ![2, 512, 8, 64]⟩ ⟨4, ![2, 16384, 8, 64]⟩ 1 32 c Y (by decide) (ix4 b j h e) = Y (ix4 b (key c j) h e) := by
  refine congrArg Y (funext fun a => Fin.ext ?_)
  fin_cases a <;> rfl

variable {m c} {x : (⟨3, ![2, 512, 768]⟩ : Shape).Idx → EReal} {wq : (⟨2, ![768, 512]⟩ : Shape).Idx → EReal}
  {k v : (⟨4, ![2, 16384, 8, 64]⟩ : Shape).Idx → EReal} {wo : (⟨2, ![512, 768]⟩ : Shape).Idx → EReal}

/-- With the arguments the whole arrays' parts, device `c`'s windows hold them. -/
theorem holds (hx : m ((c : Thread nD τ).loc main_arg0) = x) (hwq : m ((c : Thread nD τ).loc main_arg1) = wq)
    (hk : m ((c : Thread nD τ).loc main_arg2) = Layout.block ⟨4, ![2, 512, 8, 64]⟩ ⟨4, ![2, 16384, 8, 64]⟩ 1 32 c k)
    (hv : m ((c : Thread nD τ).loc main_arg3) = Layout.block ⟨4, ![2, 512, 8, 64]⟩ ⟨4, ![2, 16384, 8, 64]⟩ 1 32 c v)
    (hwo : m ((c : Thread nD τ).loc main_arg4) = wo) : Holds c (Is m c) x wq k v wo where
  x b i e := (congrFun (in_x m c) _).trans ((merge3_at _ b i e).trans (congrFun hx _))
  wq e n := (congrFun (in_wq m c) _).trans (congrFun hwq _)
  k b j h e := (congrFun (in_k m c) _).trans ((merge4_at _ b j h e).trans ((congrFun hk _).trans (block_at c k b j h e)))
  v b j h e := (congrFun (in_v m c) _).trans ((merge4_at _ b j h e).trans ((congrFun hv _).trans (block_at c v b j h e)))
  wo e n := (congrFun (in_wo m c) _).trans (congrFun hwo _)

end Cert.KernelIdeal.Own

end
-- ==== Proof.Finite.lean ====
/- The precondition read back: the arguments it names are finite, and so is every score. -/
module

public import proofs.«01_k».proof.Pre_finite_KernelIdeal
public import proofs.«01_k».proof.Pre_finite_ReferenceIdeal
public import proofs.«01_k».proof.Proof.Spec
public import Idealize.ShloMosaic.Lib.ReduceAll
public import Idealize.ShloMosaic.Lib.Affine

@[expose] public section

set_option maxRecDepth 16384

noncomputable section

namespace Cert.Finite

open Idealize.ShloMosaic
open Cert.Spec

/-- The precondition's shape facts. -/
theorem factsK : Cert.Pre_finite_KernelIdeal.Facts where
  bcast_S_S2x512x768 := by decide
  reducesTo_S2x512x768_S_d0_1_2 := by decide
  h_S_ := by decide
  bcast_S_S768x512 := by decide
  reducesTo_S768x512_S_d0_1 := by decide
  bcast_S_S2x512x8x64 := by decide
  reducesTo_S2x512x8x64_S_d0_1_2_3 := by decide

theorem factsR : Cert.Pre_finite_ReferenceIdeal.Facts where
  bcast_S_S2x512x768 := by decide
  reducesTo_S2x512x768_S_d0_1_2 := by decide
  h_S_ := by decide
  bcast_S_S768x512 := by decide
  reducesTo_S768x512_S_d0_1 := by decide
  bcast_S_S2x16384x8x64 := by decide
  reducesTo_S2x16384x8x64_S_d0_1_2_3 := by decide

theorem ofBits_top : Ideal.ofBits .f32 0x7F800000#32 = ⊤ := by decide
theorem ofBits_eighth : ∃ r : ℝ, Ideal.ofBits .f32 0x3E000000#32 = (r : EReal) := by
  unfold Ideal.ofBits Ideal.ieee
  refine ⟨_, ((if_neg (by decide)).trans (if_neg (by decide)))⟩

/-- A number whose absolute value is below infinity is a real. -/
theorem real_of (z : EReal) (h : Ideal.cmp .olt (max z (-z)) ⊤ = 1#1) : ∃ r : ℝ, z = (r : EReal) := by
  have hlt : max z (-z) < ⊤ := by
    by_contra hn
    unfold Ideal.cmp at h
    rw [show decide (max z (-z) < ⊤) = false from decide_eq_false hn] at h
    exact absurd h (show ¬ BitVec.ofBool false = 1#1 by decide)
  rw [max_lt_iff] at hlt
  refine ⟨z.toReal, (EReal.coe_toReal hlt.1.ne ?_).symm⟩
  rintro rfl
  exact hlt.2.ne EReal.neg_bot

instance : Subsingleton Cert.Pre_finite_KernelIdeal.S_.Idx := ⟨fun a b => funext fun i => i.elim0⟩

section
variable [Cert.Pre_finite_KernelIdeal.Facts]
open Cert.Pre_finite_KernelIdeal

variable {x : FVec Ideal Cert.Pre_finite_KernelIdeal.S2x512x768 .f32} {wq : FVec Ideal Cert.Pre_finite_KernelIdeal.S768x512 .f32}
  {k v : FVec Ideal Cert.Pre_finite_KernelIdeal.S2x512x8x64 .f32} {wo : FVec Ideal Cert.Pre_finite_KernelIdeal.S512x768 .f32}

/-- Where the precondition is 1, all of `x`, `wq` and `k` are real. -/
theorem real_args (h : fn x wq k v wo = fun _ => 1#1) :
    (∀ i, ∃ r : ℝ, (x i : EReal) = (r : EReal)) ∧ (∀ i, ∃ r : ℝ, (wq i : EReal) = (r : EReal)) ∧ ∀ i, ∃ r : ℝ, (k i : EReal) = (r : EReal) := by
  have h0 := congrFun h ix0
  obtain ⟨h12, h3⟩ := IntOp.andi_eq_one.1 h0
  obtain ⟨h1, h2⟩ := IntOp.andi_eq_one.1 h12
  refine ⟨fun i => real_of _ ?_, fun i => real_of _ ?_, fun i => real_of _ ?_⟩
  · rw [← ofBits_top]; exact Host.reduce_andi_all _ _ _ _ _ h1 i
  · rw [← ofBits_top]; exact Host.reduce_andi_all _ _ _ _ _ h2 i
  · rw [← ofBits_top]; exact Host.reduce_andi_all _ _ _ _ _ h3 i
end

/-! ## Scores -/

theorem sum_real {N : ℕ} (f : Fin N → EReal) (h : ∀ j, ∃ r : ℝ, f j = (r : EReal)) : ∃ r : ℝ, ∑ j, f j = (r : EReal) := by
  choose g hg using h
  refine ⟨∑ j, g j, ?_⟩
  rw [Finset.sum_congr rfl fun j _ => hg j]
  induction (Finset.univ : Finset (Fin N)) using Finset.cons_induction with
  | empty => simp
  | cons a S ha ih => rw [Finset.sum_cons, Finset.sum_cons, ih, EReal.coe_add]

theorem mul_real {a b : EReal} (ha : ∃ r : ℝ, a = (r : EReal)) (hb : ∃ r : ℝ, b = (r : EReal)) : ∃ r : ℝ, a * b = (r : EReal) := by
  obtain ⟨r, rfl⟩ := ha
  obtain ⟨t, rfl⟩ := hb
  exact ⟨r * t, (EReal.coe_mul r t).symm⟩

variable {x : (⟨3, ![2, 512, 768]⟩ : Shape).Idx → EReal} {wq : (⟨2, ![768, 512]⟩ : Shape).Idx → EReal}
  {k : (⟨4, ![2, 16384, 8, 64]⟩ : Shape).Idx → EReal}

/-- Scores of real arrays are real. -/
theorem score_real (hx : ∀ b i e, ∃ r : ℝ, x (ix3 b i e) = (r : EReal)) (hw : ∀ e n, ∃ r : ℝ, wq (ix2 e n) = (r : EReal))
    (hk : ∀ b J h e, ∃ r : ℝ, k (ix4 b J h e) = (r : EReal))
    (b : Fin 2) (h : Fin 8) (i : Fin 512) (J : Fin 16384) : ∃ r : ℝ, score x wq k b h i J = (r : EReal) :=
  mul_real (sum_real _ fun _ => mul_real (sum_real _ fun _ => mul_real (hx _ _ _) (hw _ _)) (hk _ _ _ _)) ofBits_eighth

end Cert.Finite

end
-- ==== Proof.RefStages.lean ====
/- The reference, stage by stage: block numbers, mask, masked scores, weights, output; the mask read at an index. -/
module

public import proofs.«01_k».proof.Proof.Gen.ReferenceIdeal
public import proofs.«01_k».proof.Proof.Spec
public import Idealize.ShloMosaic.Lib.Pointwise
public import Idealize.ShloMosaic.Lib.Affine

@[expose] public section

set_option maxRecDepth 16384

noncomputable section

namespace Cert.ReferenceIdeal.Own

open Idealize.ShloMosaic Idealize.ShloMosaic.TcCoe
open Cert.ReferenceIdeal.Gen
open Cert.Spec

abbrev c64 : IVec S_ 32 := id (constantI S_ 32 64#32)
abbrev c0 : IVec S_ 32 := constantI S_ 32 0#32
abbrev c1 : IVec S_ 32 := constantI S_ 32 1#32
abbrev q64 : IVec S512 32 := broadcastInDim S512 ![] bcast_S_S512 c64
abbrev q0 : IVec S512 32 := broadcastInDim S512 ![] bcast_S_S512 c0
abbrev q1 : IVec S512 32 := broadcastInDim S512 ![] bcast_S_S512 c1
abbrev k64 : IVec S16384 32 := broadcastInDim S16384 ![] bcast_S_S16384 c64
abbrev k0 : IVec S16384 32 := broadcastInDim S16384 ![] bcast_S_S16384 c0
abbrev k1 : IVec S16384 32 := broadcastInDim S16384 ![] bcast_S_S16384 c1
abbrev p0 : IVec S512x16384 32 := broadcastInDim S512x16384 ![] bcast_S_S512x16384 c0

/-- The row numbers' blocks of 64, rounded down. -/
def qBlk : IVec S512 32 :=
  select (andi (cmpi .ne (signi (iotaInDim S512 32 0)) (broadcastInDim S512 ![] bcast_S_S512 (signi c64))) (cmpi .ne (Host.remsi (iotaInDim S512 32 0) q64) q0))
    (subi (Host.divsi (iotaInDim S512 32 0) q64) q1) (Host.divsi (iotaInDim S512 32 0) q64)

/-- The column numbers' blocks of 64, rounded down. -/
def kBlk : IVec S16384 32 :=
  select (andi (cmpi .ne (signi (iotaInDim S16384 32 0)) (broadcastInDim S16384 ![] bcast_S_S16384 (signi c64))) (cmpi .ne (Host.remsi (iotaInDim S16384 32 0) k64) k0))
    (subi (Host.divsi (iotaInDim S16384 32 0) k64) k1) (Host.divsi (iotaInDim S16384 32 0) k64)

def qCol : IVec S512x16384 32 := broadcastInDim S512x16384 ![0, 1] bcast_S512x1_S512x16384_0_1 (broadcastInDim S512x1 ![0] bcast_S512_S512x1_0 qBlk)
def kRow : IVec S1x16384 32 := broadcastInDim S1x16384 ![1] bcast_S16384_S1x16384_1 kBlk
def kCol : IVec S512x16384 32 := broadcastInDim S512x16384 ![0, 1] bcast_S1x16384_S512x16384_0_1 kRow

def three : IVec S_ 32 := select (cmpi .eq (id (constantI S_ 32 3#32)) c0) c1 (id (constantI S_ 32 3#32))
def three2 : IVec S512x16384 32 := broadcastInDim S512x16384 ![] bcast_S_S512x16384 three
/-- The remainder by three, with the divisor's sign. -/
def mod3 (a : IVec S512x16384 32) : IVec S512x16384 32 :=
  select (andi (cmpi .ne (cmpi .slt (Host.remsi a three2) p0) (broadcastInDim S512x16384 ![] bcast_S_S512x16384 (cmpi .slt three c0))) (cmpi .ne (Host.remsi a three2) p0))
    (addi (Host.remsi a three2) three2) (Host.remsi a three2)

/-- The mask. -/
def maskR : IVec S512x16384 1 :=
  ori (ori (cmpi .eq qCol kCol)
      (broadcastInDim S512x16384 ![0, 1] bcast_S1x16384_S512x16384_0_1 (cmpi .eq kRow (broadcastInDim S1x16384 ![] bcast_S_S1x16384 c0))))
    (cmpi .eq (mod3 (addi qCol kCol)) p0)

/-- Whether a row reads any column. -/
def anyR : IVec S512 1 := Host.reduce IntOp.ori maskR (constantI S_ 1 0#1) reducesTo_S512x16384_S512_d1 h_S_
def anyS : IVec S1x1x512x1 1 := broadcastInDim S1x1x512x1 ![2] bcast_S512_S1x1x512x1_2 anyR

/-- The scores, minus infinity where the mask is off. -/
def maskedR (x : FVec Ideal S2x512x768 .f32) (wq : FVec Ideal S768x512 .f32) (k : FVec Ideal S2x16384x8x64 .f32) : FVec Ideal S2x8x512x16384 .f32 :=
  select (broadcastInDim S2x8x512x16384 ![0, 1, 2, 3] bcast_S1x1x512x16384_S2x8x512x16384_0_1_2_3
      (broadcastInDim S1x1x512x16384 ![2, 3] bcast_S512x16384_S1x1x512x16384_2_3 maskR))
    (mulf (Host.dotGeneral dot_S2x512x8x64_S2x16384x8x64_S2x8x512x16384_3_3_1_1_02_02 none
        (shapeCast _ (Host.dotGeneral dot_S2x512x768_S768x512_S2x512x512_2_0_01_1_n_n none x wq) shapeCasts_S2x512x512_S2x512x8x64) k)
      (broadcastInDim S2x8x512x16384 ![] bcast_S_S2x8x512x16384 (constant S_ .f32 0x3E000000#32)))
    (broadcastInDim S2x8x512x16384 ![] bcast_S_S2x8x512x16384 (id (constant S_ .f32 0xFF800000#32)))

/-- The exponentials of the scores less their row's maximum. -/
def expR (s : FVec Ideal S2x8x512x16384 .f32) : FVec Ideal S2x8x512x16384 .f32 :=
  Host.exp (subf s (broadcastInDim S2x8x512x16384 ![0, 1, 2, 3] bcast_S2x8x512x1_S2x8x512x16384_0_1_2_3
    (broadcastInDim S2x8x512x1 ![0, 1, 2] bcast_S2x8x512_S2x8x512x1_0_1_2
      (Host.reduce FloatOps.maximumf s (constant S_ .f32 0xFF800000#32) reducesTo_S2x8x512x16384_S2x8x512_d3 h_S_))))

/-- The weights: the exponentials over their row's sum. -/
def weightR (any : IVec S1x1x512x1 1) (e : FVec Ideal S2x8x512x16384 .f32) : FVec Ideal S2x8x512x16384 .f32 :=
  select (broadcastInDim S2x8x512x16384 ![0, 1, 2, 3] bcast_S1x1x512x1_S2x8x512x16384_0_1_2_3 any)
    (Host.divf e (broadcastInDim S2x8x512x16384 ![0, 1, 2, 3] bcast_S2x8x512x1_S2x8x512x16384_0_1_2_3
      (select (broadcastInDim S2x8x512x1 ![0, 1, 2, 3] bcast_S1x1x512x1_S2x8x512x1_0_1_2_3 any)
        (broadcastInDim S2x8x512x1 ![0, 1, 2] bcast_S2x8x512_S2x8x512x1_0_1_2
          (Host.reduceAdd e (constant S_ .f32 0x00000000#32) reducesTo_S2x8x512x16384_S2x8x512_d3 h_S_))
        (broadcastInDim S2x8x512x1 ![] bcast_S_S2x8x512x1 (id (constant S_ .f32 0x3F800000#32))))))
    (broadcastInDim S2x8x512x16384 ![] bcast_S_S2x8x512x16384 (id (constant S_ .f32 0x00000000#32)))

/-- The weighted values. -/
def meanR (v : FVec Ideal S2x16384x8x64 .f32) (w : FVec Ideal S2x8x512x16384 .f32) : FVec Ideal S2x8x64x512 .f32 :=
  Host.dotGeneral dot_S2x16384x8x64_S2x8x512x16384_S2x8x64x512_1_3_3_2_02_01 none v w

/-- The heads side by side times the output matrix. -/
def outR (a : FVec Ideal S2x8x64x512 .f32) (wo : FVec Ideal S512x768 .f32) : FVec Ideal S2x512x768 .f32 :=
  Host.dotGeneral dot_S2x512x512_S512x768_S2x512x768_2_0_01_1_n_n none
    (shapeCast _ (transpose S2x512x8x64 [0, 3, 1, 2] a transposes_S2x8x64x512_S2x512x8x64_0_3_1_2) shapeCasts_S2x512x8x64_S2x512x512) wo

/-! ## The mask at an index -/

theorem qBlk_at (i : Fin 512) : qBlk (ix1 i) = BitVec.ofNat 32 (i.val / 64) := by
  pointwise [qBlk]
  revert i
  decide +kernel

theorem kBlk_at (J : Fin 16384) : kBlk (ix1 J) = BitVec.ofNat 32 (J.val / 64) := by
  pointwise [kBlk]
  revert J
  decide +kernel

theorem three_at : three ix0 = 3#32 := by decide +kernel

/-- The mask's word from the words of two blocks. -/
def keepWord (a b : BitVec 32) : BitVec 1 :=
  let r := IntOp.remsi .host (IntOp.addi a b) 3#32
  IntOp.ori (IntOp.ori (IntOp.cmpi .eq a b) (IntOp.cmpi .eq b 0#32))
    (IntOp.cmpi .eq (Scalar.select (IntOp.andi (IntOp.cmpi .ne (IntOp.cmpi .slt r 0#32) (IntOp.cmpi .slt 3#32 0#32)) (IntOp.cmpi .ne r 0#32))
      (IntOp.addi r 3#32) r) 0#32)

theorem keepWord_eq : ∀ (a : Fin 8) (b : Fin 256), keepWord (BitVec.ofNat 32 a.val) (BitVec.ofNat 32 b.val)
    = BitVec.ofBool (decide (a.val = b.val ∨ b.val = 0 ∨ (a.val + b.val) % 3 = 0)) := by decide +kernel

theorem maskR_at (i : Fin 512) (J : Fin 16384) : maskR (ix2 i J) = BitVec.ofBool (decide (keep i J)) := by
  refine Eq.trans ?_ (keepWord_eq ⟨i.val / 64, by omega⟩ ⟨J.val / 64, by omega⟩)
  rw [← qBlk_at, ← kBlk_at]
  pointwise [maskR, qCol, kCol, kRow, mod3, three2, keepWord]
  rw [three_at]

/-- Bits of which one is 1, folded by «or». -/
theorem fold_or (n : ℕ) (f : Fin n → BitVec 1) (j₀ : Fin n) (h : f j₀ = 1#1) (b : BitVec 1) : Finset.univ.fold IntOp.ori b f = 1#1 := by
  have key : ∀ S : Finset (Fin n), j₀ ∈ S → S.fold IntOp.ori b f = 1#1 := fun S => by
    induction S using Finset.cons_induction with
    | empty => intro e; exact absurd e (Finset.notMem_empty _)
    | cons a S ha ih =>
      intro e
      rw [Finset.fold_cons]
      refine IntOp.ori_eq_one.2 ?_
      rcases Finset.mem_cons.1 e with e | e
      · left; rw [← e]; exact h
      · right; exact ih e
  exact key _ (Finset.mem_univ _)

/-- Every row reads a column. -/
theorem anyR_at (i : Fin 512) : anyR (ix1 i) = 1#1 := by
  pointwise [anyR]
  exact fold_or _ _ 0 (by rw [maskR_at, decide_eq_true (keep_first i)]; rfl) _

theorem anyS_at (i : Fin 512) : anyS (ix4 0 0 i 0) = 1#1 := by
  unfold anyS
  have h := anyR_at i
  generalize anyR = any at h ⊢
  pointwise
  exact h

end Cert.ReferenceIdeal.Own

end
-- ==== Proof.Softmax.lean ====
/- Sums over extended reals of masked exponentials: subtracting the row's maximum and dividing before or after summing are the same. -/
module

public import Idealize.ShloMosaic.PureOps.Ideal
public import Idealize.ShloMosaic.Lib.Pointwise
public import Mathlib.Data.EReal.Inv

@[expose] public section

noncomputable section

namespace Cert.Softmax

open Idealize.ShloMosaic

variable {N : ℕ}

/-- A sum of finite numbers is the sum of the reals. -/
theorem sum_coe (S : Finset (Fin N)) (f : Fin N → ℝ) : ∑ j ∈ S, ((f j : ℝ) : EReal) = ((∑ j ∈ S, f j : ℝ) : EReal) := by
  induction S using Finset.cons_induction with
  | empty => simp
  | cons a S h ih => rw [Finset.sum_cons, Finset.sum_cons, ih, EReal.coe_add]

/-- A finite number that is not negative goes through a sum. -/
theorem sum_mul_coe (S : Finset (Fin N)) (f : Fin N → EReal) (c : ℝ) (hc : 0 ≤ c) :
    ∑ j ∈ S, f j * (c : EReal) = (∑ j ∈ S, f j) * (c : EReal) := by
  induction S using Finset.cons_induction with
  | empty => simp
  | cons a S h ih =>
    rw [Finset.sum_cons, Finset.sum_cons, ih, EReal.right_distrib_of_nonneg_of_ne_top (EReal.coe_nonneg.2 hc) (EReal.coe_ne_top c)]

/-- The largest of finite or minus-infinite numbers, one of them finite, is finite. -/
theorem max_finite (f : Fin N → EReal) (hf : ∀ j, f j ≠ ⊤) (j₀ : Fin N) (h₀ : f j₀ ≠ ⊥) :
    ∃ M : ℝ, Finset.univ.fold max ⊥ f = (M : EReal) := by
  have hlt : ∀ S : Finset (Fin N), S.fold max ⊥ f ≠ ⊤ := fun S => by
    induction S using Finset.cons_induction with
    | empty => simp
    | cons a S h ih =>
      rw [Finset.fold_cons]
      rcases max_choice (f a) (S.fold max ⊥ f) with e | e <;> rw [e]
      · exact hf a
      · exact ih
  have hge : f j₀ ≤ Finset.univ.fold max ⊥ f := (Finset.le_fold_max _).2 (Or.inr ⟨j₀, Finset.mem_univ _, le_rfl⟩)
  refine ⟨(Finset.univ.fold max ⊥ f).toReal, (EReal.coe_toReal (hlt _) fun e => h₀ ?_).symm⟩
  exact le_bot_iff.1 (e ▸ hge)

variable (keep : Fin N → Prop) [DecidablePred keep] (s : Fin N → ℝ)

/-- The weights: the exponentials of the scores that are kept. -/
def wgt (j : Fin N) : ℝ := if keep j then Real.exp (s j) else 0

/-- The scores, minus infinity where they are not kept. -/
def masked (j : Fin N) : EReal := if keep j then (s j : EReal) else ⊥

theorem exp_masked (M : ℝ) (j : Fin N) : Ideal.exp (masked keep s j - (M : EReal)) = ((wgt keep s j * Real.exp (-M) : ℝ) : EReal) := by
  unfold masked wgt
  by_cases h : keep j
  · rw [if_pos h, if_pos h, ← EReal.coe_sub, Ideal.exp_coe, sub_eq_add_neg, Real.exp_add]
  · rw [if_neg h, if_neg h, EReal.bot_sub, zero_mul]; rfl

/-- Values weighted by the softmax of the masked scores: the weighted sum over the sum of the weights. -/
theorem softmax (V : Fin N → EReal) (j₀ : Fin N) (h₀ : keep j₀) :
    ∑ j, V j * Ideal.div (Ideal.exp (masked keep s j - Finset.univ.fold max ⊥ (masked keep s)))
        (0 + ∑ i, Ideal.exp (masked keep s i - Finset.univ.fold max ⊥ (masked keep s)))
      = Ideal.div (∑ j, ((wgt keep s j : ℝ) : EReal) * V j) (∑ j, ((wgt keep s j : ℝ) : EReal)) := by
  obtain ⟨M, hM⟩ := max_finite (masked keep s) (fun j => by unfold masked; split <;> simp) j₀ (by unfold masked; rw [if_pos h₀]; simp)
  have hL : 0 < ∑ j, wgt keep s j := Finset.sum_pos' (fun j _ => by unfold wgt; split <;> positivity)
    ⟨j₀, Finset.mem_univ _, by unfold wgt; rw [if_pos h₀]; positivity⟩
  have hE := Real.exp_pos (-M)
  rw [hM]
  simp only [exp_masked]
  rw [zero_add, sum_coe, sum_coe, ← Finset.sum_mul, Ideal.div_coe hL.ne',
    ← sum_mul_coe _ _ _ (by positivity)]
  refine Finset.sum_congr rfl fun j _ => ?_
  rw [Ideal.div_coe (mul_pos hL hE).ne', ← EReal.coe_mul, mul_right_comm _ (V j), ← EReal.coe_mul, mul_comm (V j)]
  congr 2
  field_simp

end Cert.Softmax

end
-- ==== Proof.RefValue.lean ====
/- The reference at an index: its result is the attention's output wherever the scores are finite. -/
module

public import proofs.«01_k».proof.Proof.RefStages
public import proofs.«01_k».proof.Proof.Softmax

@[expose] public section

set_option maxRecDepth 16384

noncomputable section

namespace Cert.ReferenceIdeal.Own

open Idealize.ShloMosaic Idealize.ShloMosaic.TcCoe
open Cert.ReferenceIdeal.Gen
open Cert.Spec

theorem ofBits_bot : Ideal.ofBits .f32 0xFF800000#32 = ⊥ := by
  decide

variable (x : FVec Ideal S2x512x768 .f32) (wq : FVec Ideal S768x512 .f32) (k v : FVec Ideal S2x16384x8x64 .f32) (wo : FVec Ideal S512x768 .f32)

theorem select_one (a b : EReal) : Scalar.select 1#1 a b = a := rfl

/-- Equal numbers are the same position. -/
theorem at_eq (a : FVec Ideal S2x8x64x512 .f32) {b : Fin 2} {h h' : Fin 8} {d d' : Fin 64} {i : Fin 512} (hh : h.val = h'.val) (hd : d.val = d'.val) :
    (a (ix4 b h d i) : EReal) = a (ix4 b h' d' i) := by
  rw [Fin.ext hh, Fin.ext hd]

theorem maskedR_at (b : Fin 2) (h : Fin 8) (i : Fin 512) (J : Fin 16384) :
    maskedR x wq k (ix4 b h i J) = if keep i J then score x wq k b h i J else ⊥ := by
  have hm := maskR_at i J
  unfold maskedR
  generalize maskR = mask at hm ⊢
  pointwise
  rw [hm]
  by_cases e : keep i J
  · rw [if_pos e, decide_eq_true e]; rfl
  · rw [if_neg e, decide_eq_false e]; exact ofBits_bot

theorem expR_at (s : FVec Ideal S2x8x512x16384 .f32) (b : Fin 2) (h : Fin 8) (i : Fin 512) (J : Fin 16384) :
    expR s (ix4 b h i J) = Ideal.exp ((s (ix4 b h i J) : EReal) - Finset.univ.fold max ⊥ fun j : Fin 16384 => (s (ix4 b h i j) : EReal)) := by
  pointwise [expR]
  rw [ofBits_bot]

theorem weightR_at (any : IVec S1x1x512x1 1) (ha : ∀ i : Fin 512, any (ix4 0 0 i 0) = 1#1) (e : FVec Ideal S2x8x512x16384 .f32)
    (b : Fin 2) (h : Fin 8) (i : Fin 512) (J : Fin 16384) :
    weightR any e (ix4 b h i J) = Ideal.div (e (ix4 b h i J)) (∑ j : Fin 16384, (e (ix4 b h i j) : EReal)) := by
  pointwise [weightR]
  rw [ha, select_one, select_one]

theorem meanR_at (w : FVec Ideal S2x8x512x16384 .f32) (b : Fin 2) (h : Fin 8) (i : Fin 512) (d : Fin 64) :
    meanR v w (ix4 b h d i) = ∑ J : Fin 16384, (v (ix4 b J h d) : EReal) * (w (ix4 b h i J) : EReal) := by
  pointwise [meanR]

theorem outR_at (a : FVec Ideal S2x8x64x512 .f32) (b : Fin 2) (i : Fin 512) (n : Fin 768) :
    outR a wo (ix3 b i n) = ∑ h : Fin 8, ∑ d : Fin 64, (a (ix4 b h d i) : EReal) * (wo (ix2 (col h d) n) : EReal) := by
  pointwise [outR]
  refine (Fin.sum_univ_tiles 8 64 rfl _).trans (Finset.sum_congr rfl fun h _ => Finset.sum_congr rfl fun d _ => ?_)
  exact congrArg (· * _) (at_eq a (by simp only; omega) (by simp only; omega))

/-- With finite scores, the weights' mean of the values is the attention. -/
theorem mean_at (s : Fin 2 → Fin 8 → Fin 512 → Fin 16384 → ℝ) (hs : ∀ b h i J, score x wq k b h i J = (s b h i J : EReal))
    (any : IVec S1x1x512x1 1) (ha : ∀ i : Fin 512, any (ix4 0 0 i 0) = 1#1) (b : Fin 2) (h : Fin 8) (i : Fin 512) (d : Fin 64) :
    meanR v (weightR any (expR (maskedR x wq k))) (ix4 b h d i) = attn x wq k v b h i d := by
  have hm : ∀ J : Fin 16384, maskedR x wq k (ix4 b h i J) = Softmax.masked (keep i) (s b h i) J := fun J => by
    rw [maskedR_at, hs]; rfl
  have hw : ∀ J : Fin 16384, weight x wq k b h i J = ((Softmax.wgt (keep i) (s b h i) J : ℝ) : EReal) := fun J => by
    unfold weight Softmax.wgt
    rw [hs, Ideal.exp_coe]
    split <;> rfl
  have key := Softmax.softmax (keep i) (s b h i) (fun J => (v (ix4 b J h d) : EReal)) 0 (keep_first i)
  rw [zero_add] at key
  unfold attn
  simp only [hw]
  rw [← key, meanR_at]
  refine Finset.sum_congr rfl fun J _ => congrArg₂ (· * ·) rfl ?_
  rw [weightR_at any ha]
  generalize maskedR x wq k = w at hm ⊢
  have he : ∀ J : Fin 16384, expR w (ix4 b h i J)
      = Ideal.exp (Softmax.masked (keep i) (s b h i) J - Finset.univ.fold max ⊥ (Softmax.masked (keep i) (s b h i))) := fun J => by
    rw [expR_at, hm]
    exact congrArg (fun f : Fin 16384 → EReal => Ideal.exp (_ - Finset.univ.fold max ⊥ f)) (funext hm)
  generalize expR w = u at he ⊢
  exact congrArg₂ Ideal.div (he J) (Finset.sum_congr rfl fun j _ => he j)

/-- With finite scores, the reference's result. -/
theorem ref_at (s : Fin 2 → Fin 8 → Fin 512 → Fin 16384 → ℝ) (hs : ∀ b h i J, score x wq k b h i J = (s b h i J : EReal))
    (b : Fin 2) (i : Fin 512) (n : Fin 768) :
    outR (meanR v (weightR anyS (expR (maskedR x wq k)))) wo (ix3 b i n) = out x wq k v wo b i n := by
  have hA : ∀ (h : Fin 8) (d : Fin 64), meanR v (weightR anyS (expR (maskedR x wq k))) (ix4 b h d i) = attn x wq k v b h i d := fun h d =>
    mean_at x wq k v s hs anyS anyS_at b h i d
  generalize meanR v (weightR anyS (expR (maskedR x wq k))) = a at hA ⊢
  rw [outR_at]
  exact Finset.sum_congr rfl fun h _ => Finset.sum_congr rfl fun d _ => congrArg (fun t : EReal => t * _) (hA h d)

end Cert.ReferenceIdeal.Own

end
-- ==== Proof.RefRun.lean ====
/- The reference's run ends with the stages' result. -/
module

public import proofs.«01_k».proof.Proof.RefStages
public import proofs.«01_k».proof.Proof.Gen.ReferenceIdeal.Run

@[expose] public section

set_option maxRecDepth 16384

noncomputable section

namespace Cert.ReferenceIdeal.Own

open Idealize.ShloMosaic Idealize.ShloMosaic.TcCoe
open Cert.ReferenceIdeal.Gen

variable (m : (ℓ : Loc nD τ sig) → Buf (Elt Ideal) ℓ) (c : Dev nD)

abbrev arg0R : FVec Ideal S2x512x768 .f32 := m ((c.tc : Thread nD τ).loc main_arg0)
abbrev arg1R : FVec Ideal S768x512 .f32 := m ((c.tc : Thread nD τ).loc main_arg1)
abbrev arg2R : FVec Ideal S2x16384x8x64 .f32 := m ((c.tc : Thread nD τ).loc main_arg2)
abbrev arg3R : FVec Ideal S2x16384x8x64 .f32 := m ((c.tc : Thread nD τ).loc main_arg3)
abbrev arg4R : FVec Ideal S512x768 .f32 := m ((c.tc : Thread nD τ).loc main_arg4)

/-- The run's result is the stages' composition. -/
theorem res_eq : Value.res_main_v44 m c
    = outR (meanR (arg3R m c) (weightR anyS (expR (maskedR (arg0R m c) (arg1R m c) (arg2R m c))))) (arg4R m c) := by
  unfold Value.res_main_v44 outR meanR weightR anyS anyR expR maskedR maskR mod3 three2 three kCol kRow qCol qBlk kBlk
  rfl

end Cert.ReferenceIdeal.Own

end
-- ==== Proof.Algebraic.lean ====
/- The kernel and the reference compute the same function over the extended reals. -/
module

public import proofs.«01_k».proof.Proof.Frames
public import proofs.«01_k».proof.Proof.Held
public import proofs.«01_k».proof.Proof.Finite
public import proofs.«01_k».proof.Proof.RefValue
public import proofs.«01_k».proof.Proof.RefRun

@[expose] public section

set_option maxRecDepth 16384

noncomputable section

namespace Cert.Own

open Idealize.ShloMosaic Idealize.ShloMosaic.TcCoe
open Idealize.SL.Sem
open Cert.Spec

/-- Two arrays of three axes that agree at every triple of coordinates are equal. -/
theorem ext3 (X Y : (⟨3, ![2, 512, 768]⟩ : Shape).Idx → EReal) (h : ∀ (b : Fin 2) (i : Fin 512) (n : Fin 768), X (ix3 b i n) = Y (ix3 b i n)) : X = Y := by
  funext j
  have e : j = ix3 (j 0) (j 1) (j 2) := by funext a; fin_cases a <;> rfl
  rw [e]
  exact h (j 0) (j 1) (j 2)

/-- Every column is a column of some device. -/
theorem key_of (J : Fin 16384) : key ⟨J.val / 512, by omega⟩ ⟨J.val % 512, by omega⟩ = J := Fin.ext (by show J.val / 512 * 512 + J.val % 512 = J.val; omega)

variable [Cert.Pre_finite_KernelIdeal.Facts]

/-- From agreeing arguments, finite where the precondition says so, the kernel's result on every device is the reference's. -/
theorem algebraic : Cert.algebraic_KernelIdeal_ReferenceIdeal_pre_finite_KernelIdeal := by
  intro m g m' g' hpre hag
  let x := Cert.ReferenceIdeal.Own.arg0R m' 0
  let wq := Cert.ReferenceIdeal.Own.arg1R m' 0
  let k := Cert.ReferenceIdeal.Own.arg2R m' 0
  let v := Cert.ReferenceIdeal.Own.arg3R m' 0
  let wo := Cert.ReferenceIdeal.Own.arg4R m' 0
  have H : ∀ d : Fin 32, Cert.KernelIdeal.Own.Holds d (Cert.KernelIdeal.Own.Is m d) x wq k v wo := fun d =>
    Cert.KernelIdeal.Own.holds (hag d).1 (hag d).2.1 (hag d).2.2.1 (hag d).2.2.2.1 (hag d).2.2.2.2
  have hreal := fun d => Cert.Finite.real_args (hpre d)
  have hx : ∀ (b : Fin 2) (i : Fin 512) (e : Fin 768), ∃ r : ℝ, (x (ix3 b i e) : EReal) = (r : EReal) := fun b i e => by
    have h := (hreal 0).1 (ix3 b i e)
    rwa [(hag 0).1] at h
  have hw : ∀ (e : Fin 768) (n : Fin 512), ∃ r : ℝ, (wq (ix2 e n) : EReal) = (r : EReal) := fun e n => by
    have h := (hreal 0).2.1 (ix2 e n)
    rwa [(hag 0).2.1] at h
  have hk : ∀ (b : Fin 2) (J : Fin 16384) (h : Fin 8) (e : Fin 64), ∃ r : ℝ, (k (ix4 b J h e) : EReal) = (r : EReal) := fun b J h e => by
    let d : Fin 32 := ⟨J.val / 512, by omega⟩
    obtain ⟨r, hr⟩ := (hreal d).2.2 (ix4 b ⟨J.val % 512, by omega⟩ h e)
    refine ⟨r, Eq.trans ?_ hr⟩
    refine Eq.trans ?_ (congrFun (hag d).2.2.1 _).symm
    exact (congrArg (fun t => k (ix4 b t h e)) (key_of J).symm).trans (Cert.KernelIdeal.Own.block_at d k b ⟨J.val % 512, by omega⟩ h e).symm
  choose s hs using fun b h i J => Cert.Finite.score_real hx hw hk b h i J
  have hres : ∀ c : Dev Cert.KernelIdeal.nD, Cert.KernelIdeal.Gen.V4 m (Cert.KernelIdeal.Own.outs m) c Cert.KernelIdeal.main_v6
      = Cert.ReferenceIdeal.Value.res_main_v44 m' 0 := fun c => by
    rw [Cert.KernelIdeal.Own.out_v6, Cert.ReferenceIdeal.Own.res_eq]
    refine ext3 _ _ fun b i n => ?_
    exact ((Cert.KernelIdeal.Own.split3_at _ b i n).trans (Cert.KernelIdeal.Own.gathered_out H b i n)).trans
      (Cert.ReferenceIdeal.Own.ref_at x wq k v wo s hs b i n).symm
  refine ⟨Cert.ReferenceIdeal.Value.res_main_v44 m' 0, ?_, ?_⟩
  · exact (θ_run Cert.KernelIdeal.defs _ _).mono (fun r h c => ⟨(h.1 c).2.trans (hres c), (h.1 c).1⟩) (Cert.KernelIdeal.Own.run_read (F := Ideal) m g)
  · exact (θ_run Cert.ReferenceIdeal.defs _ _).mono (fun r h => h 0) (Cert.ReferenceIdeal.Value.run (F := Ideal) m' g')

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.FrameRef
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Finite.factsK, Cert.Finite.factsR,
  Cert.KernelIdeal.Own.frame_bits, Cert.KernelIdeal.Own.frame_ideal, fun m g _ => Cert.KernelIdeal.Own.frame_ideal m g True.intro,
  Cert.ReferenceIdeal.Own.frame_reference, fun m g _ => Cert.ReferenceIdeal.Own.frame_reference m g True.intro, trivial,
  @Cert.Own.algebraic Cert.Finite.factsK⟩

end Cert.Proof

end
